-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v102) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x100x768 : Shape := ⟨3, ![4, 100, 768]⟩
abbrev S100x2 : Shape := ⟨2, ![100, 2]⟩
abbrev S768x768 : Shape := ⟨2, ![768, 768]⟩
abbrev S768 : Shape := ⟨1, ![768]⟩
abbrev S768x4 : Shape := ⟨2, ![768, 4]⟩
abbrev S4 : Shape := ⟨1, ![4]⟩
abbrev S2304x768 : Shape := ⟨2, ![2304, 768]⟩
abbrev S1x1x768 : Shape := ⟨3, ![1, 1, 768]⟩
abbrev S_ : Shape := ⟨0, ![]⟩
abbrev S4x100x4 : Shape := ⟨3, ![4, 100, 4]⟩
abbrev S1x1x4 : Shape := ⟨3, ![1, 1, 4]⟩
abbrev S4x100x3 : Shape := ⟨3, ![4, 100, 3]⟩
abbrev S4x100 : Shape := ⟨2, ![4, 100]⟩
abbrev S4x1x100 : Shape := ⟨3, ![4, 1, 100]⟩
abbrev S1x768 : Shape := ⟨2, ![1, 768]⟩
abbrev S1x4 : Shape := ⟨2, ![1, 4]⟩
abbrev S4x1600x128 : Shape := ⟨3, ![4, 1600, 128]⟩
abbrev S1x100x768 : Shape := ⟨3, ![1, 100, 768]⟩
abbrev S1x1x100 : Shape := ⟨3, ![1, 1, 100]⟩
abbrev S1x1600x128 : Shape := ⟨3, ![1, 1600, 128]⟩
abbrev S100x768 : Shape := ⟨2, ![100, 768]⟩
abbrev S1x100 : Shape := ⟨2, ![1, 100]⟩
abbrev S128x100 : Shape := ⟨2, ![128, 100]⟩
abbrev S128 : Shape := ⟨1, ![128]⟩
abbrev S128x1 : Shape := ⟨2, ![128, 1]⟩
abbrev S100 : Shape := ⟨1, ![100]⟩
abbrev S128x768 : Shape := ⟨2, ![128, 768]⟩
abbrev S40x768 : Shape := ⟨2, ![40, 768]⟩
abbrev S128x2 : Shape := ⟨2, ![128, 2]⟩
abbrev S40x2 : Shape := ⟨2, ![40, 2]⟩
abbrev S2x128 : Shape := ⟨2, ![2, 128]⟩
abbrev S40x128 : Shape := ⟨2, ![40, 128]⟩
abbrev S4x128 : Shape := ⟨2, ![4, 128]⟩
abbrev S768x128 : Shape := ⟨2, ![768, 128]⟩
abbrev S1x128 : Shape := ⟨2, ![1, 128]⟩
abbrev S40x1x768 : Shape := ⟨3, ![40, 1, 768]⟩
abbrev S1x40x768 : Shape := ⟨3, ![1, 40, 768]⟩
abbrev S40x40x768 : Shape := ⟨3, ![40, 40, 768]⟩
abbrev S1600x768 : Shape := ⟨2, ![1600, 768]⟩
abbrev S1600x128 : Shape := ⟨2, ![1600, 128]⟩
abbrev S40x40x128 : Shape := ⟨3, ![40, 40, 128]⟩
abbrev S1x40x128 : Shape := ⟨3, ![1, 40, 128]⟩
abbrev S40x1x128 : Shape := ⟨3, ![40, 1, 128]⟩
abbrev S4x1600x4 : Shape := ⟨3, ![4, 1600, 4]⟩
abbrev S4x1600x2x2 : Shape := ⟨4, ![4, 1600, 2, 2]⟩

abbrev nBuf : Space → Nat
  | .hbm => 39
  | .vmem => 17
  | .smem => 0
  | _ => 0

abbrev bufTy : (tb : Table) → Fin (tcTables nBuf tb) → BufTy
  | .hbm, ⟨0, _⟩ => ⟨S4x100x768, .f32⟩
  | .hbm, ⟨1, _⟩ => ⟨S100x2, .i32⟩
  | .hbm, ⟨2, _⟩ => ⟨S768x768, .f32⟩
  | .hbm, ⟨3, _⟩ => ⟨S768, .f32⟩
  | .hbm, ⟨4, _⟩ => ⟨S768x4, .f32⟩
  | .hbm, ⟨5, _⟩ => ⟨S4, .f32⟩
  | .hbm, ⟨6, _⟩ => ⟨S2304x768, .f32⟩
  | .hbm, ⟨7, _⟩ => ⟨S768, .f32⟩
  | .hbm, ⟨8, _⟩ => ⟨S768x4, .f32⟩
  | .hbm, ⟨9, _⟩ => ⟨S4, .f32⟩
  | .hbm, ⟨10, _⟩ => ⟨S4x100x768, .f32⟩
  | .hbm, ⟨11, _⟩ => ⟨S1x1x768, .f32⟩
  | .hbm, ⟨12, _⟩ => ⟨S4x100x768, .f32⟩
  | .hbm, ⟨13, _⟩ => ⟨S4x100x768, .f32⟩
  | .hbm, ⟨14, _⟩ => ⟨S_, .f32⟩
  | .hbm, ⟨15, _⟩ => ⟨S4x100x768, .f32⟩
  | .hbm, ⟨16, _⟩ => ⟨S4x100x768, .f32⟩
  | .hbm, ⟨17, _⟩ => ⟨S4x100x4, .f32⟩
  | .hbm, ⟨18, _⟩ => ⟨S1x1x4, .f32⟩
  | .hbm, ⟨19, _⟩ => ⟨S4x100x4, .f32⟩
  | .hbm, ⟨20, _⟩ => ⟨S4x100x4, .f32⟩
  | .hbm, ⟨21, _⟩ => ⟨S4x100x3, .f32⟩
  | .hbm, ⟨22, _⟩ => ⟨S_, .f32⟩
  | .hbm, ⟨23, _⟩ => ⟨S4x100, .f32⟩
  | .hbm, ⟨24, _⟩ => ⟨S_, .f32⟩
  | .hbm, ⟨25, _⟩ => ⟨S4x100, .f32⟩
  | .hbm, ⟨26, _⟩ => ⟨S4x100, .f32⟩
  | .hbm, ⟨27, _⟩ => ⟨S4x1x100, .f32⟩
  | .hbm, ⟨28, _⟩ => ⟨S1x768, .f32⟩
  | .hbm, ⟨29, _⟩ => ⟨S1x4, .f32⟩
  | .hbm, ⟨30, _⟩ => ⟨S1x768, .f32⟩
  | .hbm, ⟨31, _⟩ => ⟨S1x4, .f32⟩
  | .hbm, ⟨32, _⟩ => ⟨S4x1600x128, .f32⟩
  | .hbm, ⟨33, _⟩ => ⟨S4x1600x128, .f32⟩
  | .hbm, ⟨34, _⟩ => ⟨S4x1600x4, .f32⟩
  | .hbm, ⟨35, _⟩ => ⟨S4x1600x4, .f32⟩
  | .hbm, ⟨36, _⟩ => ⟨S4x1600x4, .f32⟩
  | .hbm, ⟨37, _⟩ => ⟨S4x1600x4, .i32⟩
  | .hbm, ⟨38, _⟩ => ⟨S4x1600x2x2, .i32⟩
  | .local _ .vmem, ⟨0, _⟩ => ⟨S1x100x768, .f32⟩
  | .local _ .vmem, ⟨1, _⟩ => ⟨S1x100x768, .f32⟩
  | .local _ .vmem, ⟨2, _⟩ => ⟨S1x1x100, .f32⟩
  | .local _ .vmem, ⟨3, _⟩ => ⟨S1x1x100, .f32⟩
  | .local _ .vmem, ⟨4, _⟩ => ⟨S100x2, .i32⟩
  | .local _ .vmem, ⟨5, _⟩ => ⟨S768x768, .f32⟩
  | .local _ .vmem, ⟨6, _⟩ => ⟨S1x768, .f32⟩
  | .local _ .vmem, ⟨7, _⟩ => ⟨S768x4, .f32⟩
  | .local _ .vmem, ⟨8, _⟩ => ⟨S1x4, .f32⟩
  | .local _ .vmem, ⟨9, _⟩ => ⟨S2304x768, .f32⟩
  | .local _ .vmem, ⟨10, _⟩ => ⟨S1x768, .f32⟩
  | .local _ .vmem, ⟨11, _⟩ => ⟨S768x4, .f32⟩
  | .local _ .vmem, ⟨12, _⟩ => ⟨S1x4, .f32⟩
  | .local _ .vmem, ⟨13, _⟩ => ⟨S1x1600x128, .f32⟩
  | .local _ .vmem, ⟨14, _⟩ => ⟨S1x1600x128, .f32⟩
  | .local _ .vmem, ⟨15, _⟩ => ⟨S1x1600x128, .f32⟩
  | .local _ .vmem, ⟨16, _⟩ => ⟨S1x1600x128, .f32⟩
  | _, _ => ⟨S4x100x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18_0 : Ref sig .tc := ⟨.hbm, 32, rfl⟩
abbrev main_v18_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x100x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S100x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2304x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S768x4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x4 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x1600x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1600x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S4x100x768 : Shape := ⟨3, ![4, 100, 768]⟩
abbrev S100x2 : Shape := ⟨2, ![100, 2]⟩
abbrev S768x768 : Shape := ⟨2, ![768, 768]⟩
abbrev S768 : Shape := ⟨1, ![768]⟩
abbrev S768x4 : Shape := ⟨2, ![768, 4]⟩
abbrev S4 : Shape := ⟨1, ![4]⟩
abbrev S2304x768 : Shape := ⟨2, ![2304, 768]⟩
abbrev S1x1x768 : Shape := ⟨3, ![1, 1, 768]⟩
abbrev S_ : Shape := ⟨0, ![]⟩
abbrev S4x100x4 : Shape := ⟨3, ![4, 100, 4]⟩
abbrev S1x1x4 : Shape := ⟨3, ![1, 1, 4]⟩
abbrev S4x100x3 : Shape := ⟨3, ![4, 100, 3]⟩
abbrev S4x100 : Shape := ⟨2, ![4, 100]⟩
abbrev S4x40 : Shape := ⟨2, ![4, 40]⟩
abbrev S4x1 : Shape := ⟨2, ![4, 1]⟩
abbrev S4x100x1 : Shape := ⟨3, ![4, 100, 1]⟩
abbrev S4x100x2 : Shape := ⟨3, ![4, 100, 2]⟩
abbrev S40 : Shape := ⟨1, ![40]⟩
abbrev S1x40 : Shape := ⟨2, ![1, 40]⟩
abbrev S4x40x1 : Shape := ⟨3, ![4, 40, 1]⟩
abbrev S1 : Shape := ⟨1, ![1]⟩
abbrev S1x1x1 : Shape := ⟨3, ![1, 1, 1]⟩
abbrev S4x40x768 : Shape := ⟨3, ![4, 40, 768]⟩
abbrev S4x40x2 : Shape := ⟨3, ![4, 40, 2]⟩
abbrev S4x40x40x768 : Shape := ⟨4, ![4, 40, 40, 768]⟩
abbrev S4x1600x768 : Shape := ⟨3, ![4, 1600, 768]⟩
abbrev S1x4x1x40x1x768 : Shape := ⟨6, ![1, 4, 1, 40, 1, 768]⟩
abbrev S1x4x40x40x1x768 : Shape := ⟨6, ![1, 4, 40, 40, 1, 768]⟩
abbrev S4x1600x2304 : Shape := ⟨3, ![4, 1600, 2304]⟩
abbrev S4x40x4 : Shape := ⟨3, ![4, 40, 4]⟩
abbrev S4x1600x4 : Shape := ⟨3, ![4, 1600, 4]⟩
abbrev S1x4x1x40x1x4 : Shape := ⟨6, ![1, 4, 1, 40, 1, 4]⟩
abbrev S1x4x40x40x1x4 : Shape := ⟨6, ![1, 4, 40, 40, 1, 4]⟩
abbrev S4x40x40x4 : Shape := ⟨4, ![4, 40, 40, 4]⟩
abbrev S4x40x40x2 : Shape := ⟨4, ![4, 40, 40, 2]⟩
abbrev S4x1600x2 : Shape := ⟨3, ![4, 1600, 2]⟩
abbrev S1x4x1x40x1x2 : Shape := ⟨6, ![1, 4, 1, 40, 1, 2]⟩
abbrev S1x4x40x40x1x2 : Shape := ⟨6, ![1, 4, 40, 40, 1, 2]⟩
abbrev S4x1600x1x2 : Shape := ⟨4, ![4, 1600, 1, 2]⟩
abbrev S4x1600x2x2 : Shape := ⟨4, ![4, 1600, 2, 2]⟩

abbrev nBuf : Space → Nat
  | .hbm => 202
  | .vmem => 0
  | .smem => 0
  | _ => 0

abbrev hbmTy0_0 (i : Nat) : BufTy := match i % 128 with
  | 0 => ⟨S4x100x768, .f32⟩
  | 1 => ⟨S100x2, .i32⟩
  | 2 => ⟨S768x768, .f32⟩
  | 3 => ⟨S768, .f32⟩
  | 4 => ⟨S768x4, .f32⟩
  | 5 => ⟨S4, .f32⟩
  | 6 => ⟨S2304x768, .f32⟩
  | 7 => ⟨S768, .f32⟩
  | 8 => ⟨S768x4, .f32⟩
  | 9 => ⟨S4, .f32⟩
  | 10 => ⟨S4x100x768, .f32⟩
  | 11 => ⟨S1x1x768, .f32⟩
  | 12 => ⟨S4x100x768, .f32⟩
  | 13 => ⟨S4x100x768, .f32⟩
  | 14 => ⟨S_, .f32⟩
  | 15 => ⟨S4x100x768, .f32⟩
  | 16 => ⟨S4x100x768, .f32⟩
  | 17 => ⟨S4x100x4, .f32⟩
  | 18 => ⟨S1x1x4, .f32⟩
  | 19 => ⟨S4x100x4, .f32⟩
  | 20 => ⟨S4x100x4, .f32⟩
  | 21 => ⟨S4x100x3, .f32⟩
  | 22 => ⟨S_, .f32⟩
  | 23 => ⟨S4x100, .f32⟩
  | 24 => ⟨S_, .f32⟩
  | 25 => ⟨S4x100, .f32⟩
  | 26 => ⟨S4x100, .f32⟩
  | 27 => ⟨S4x100, .f32⟩
  | 28 => ⟨S4x100, .i32⟩
  | 29 => ⟨S4x100, .f32⟩
  | 30 => ⟨S4x100, .i32⟩
  | 31 => ⟨S4x100, .f32⟩
  | 32 => ⟨S_, .f32⟩
  | 33 => ⟨S4x100, .f32⟩
  | 34 => ⟨S4x100, .i1⟩
  | 35 => ⟨S4x100, .i32⟩
  | 36 => ⟨S_, .i32⟩
  | 37 => ⟨S_, .i32⟩
  | 38 => ⟨S4x100, .i32⟩
  | 39 => ⟨S_, .i32⟩
  | 40 => ⟨S4x40, .i32⟩
  | 41 => ⟨S4, .i32⟩
  | 42 => ⟨S_, .i32⟩
  | 43 => ⟨S4, .i32⟩
  | 44 => ⟨S4, .i32⟩
  | 45 => ⟨S_, .i32⟩
  | 46 => ⟨S4, .i32⟩
  | 47 => ⟨S4, .i32⟩
  | 48 => ⟨S4x1, .i32⟩
  | 49 => ⟨S_, .i32⟩
  | 50 => ⟨S4x1, .i32⟩
  | 51 => ⟨S4x1, .i1⟩
  | 52 => ⟨S_, .i32⟩
  | 53 => ⟨S4x1, .i32⟩
  | 54 => ⟨S4x1, .i32⟩
  | 55 => ⟨S4x1, .i32⟩
  | 56 => ⟨S_, .i32⟩
  | 57 => ⟨S4x100, .i32⟩
  | 58 => ⟨S4x100, .i1⟩
  | 59 => ⟨S_, .i32⟩
  | 60 => ⟨S4x100, .i32⟩
  | 61 => ⟨S4x100, .i32⟩
  | 62 => ⟨S4x100, .i32⟩
  | 63 => ⟨S4x100, .i32⟩
  | 64 => ⟨S4x100x1, .i32⟩
  | 65 => ⟨S4x100x1, .i32⟩
  | 66 => ⟨S4x100x2, .i32⟩
  | 67 => ⟨S_, .i32⟩
  | 68 => ⟨S4x100, .i32⟩
  | 69 => ⟨S4x40, .i32⟩
  | 70 => ⟨S_, .i32⟩
  | 71 => ⟨S_, .i32⟩
  | 72 => ⟨S4x40, .i32⟩
  | 73 => ⟨S_, .i32⟩
  | 74 => ⟨S_, .i32⟩
  | 75 => ⟨S4x40, .i32⟩
  | 76 => ⟨S4x40, .i32⟩
  | 77 => ⟨S4x40, .i32⟩
  | 78 => ⟨S_, .i32⟩
  | 79 => ⟨S4x40, .i32⟩
  | 80 => ⟨S4x40, .i1⟩
  | 81 => ⟨S4x40, .i32⟩
  | 82 => ⟨S4x40, .i32⟩
  | 83 => ⟨S_, .i32⟩
  | 84 => ⟨S4x40, .i32⟩
  | 85 => ⟨S4x40, .i1⟩
  | 86 => ⟨S4x40, .i1⟩
  | 87 => ⟨S_, .i32⟩
  | 88 => ⟨S4x40, .i32⟩
  | 89 => ⟨S4x40, .i32⟩
  | 90 => ⟨S4x40, .i32⟩
  | 91 => ⟨S_, .i32⟩
  | 92 => ⟨S_, .i32⟩
  | 93 => ⟨S_, .i32⟩
  | 94 => ⟨S_, .i1⟩
  | 95 => ⟨S_, .i32⟩
  | 96 => ⟨S_, .i32⟩
  | 97 => ⟨S4x40, .i32⟩
  | 98 => ⟨S4x40, .i32⟩
  | 99 => ⟨S_, .i32⟩
  | 100 => ⟨S4x40, .i32⟩
  | 101 => ⟨S4x40, .i1⟩
  | 102 => ⟨S_, .i32⟩
  | 103 => ⟨S4x40, .i32⟩
  | 104 => ⟨S4x40, .i1⟩
  | 105 => ⟨S_, .i32⟩
  | 106 => ⟨S_, .i1⟩
  | 107 => ⟨S4x40, .i1⟩
  | 108 => ⟨S4x40, .i1⟩
  | 109 => ⟨S4x40, .i1⟩
  | 110 => ⟨S4x40, .i32⟩
  | 111 => ⟨S4x40, .i32⟩
  | 112 => ⟨S4x40, .i32⟩
  | 113 => ⟨S4x100, .i32⟩
  | 114 => ⟨S_, .i32⟩
  | 115 => ⟨S4, .i32⟩
  | 116 => ⟨S4x1, .i32⟩
  | 117 => ⟨S40, .i32⟩
  | 118 => ⟨S1x40, .i32⟩
  | 119 => ⟨S4x40, .i32⟩
  | 120 => ⟨S4x40, .i32⟩
  | 121 => ⟨S4x40, .i1⟩
  | 122 => ⟨S_, .i32⟩
  | 123 => ⟨S_, .i32⟩
  | 124 => ⟨S4x40, .i32⟩
  | 125 => ⟨S4x40, .i32⟩
  | 126 => ⟨S4x40x1, .i32⟩
  | 127 => ⟨S_, .i32⟩
  | _ => ⟨S4x100x768, .f32⟩

abbrev hbmTy0_1 (i : Nat) : BufTy := match i % 128 with
  | 0 => ⟨S4x40x1, .i32⟩
  | 1 => ⟨S4x40x1, .i1⟩
  | 2 => ⟨S_, .i32⟩
  | 3 => ⟨S4x40x1, .i32⟩
  | 4 => ⟨S4x40x1, .i32⟩
  | 5 => ⟨S4x40x1, .i32⟩
  | 6 => ⟨S1, .i32⟩
  | 7 => ⟨S_, .i32⟩
  | 8 => ⟨S4x40x1, .i32⟩
  | 9 => ⟨S4x40x1, .i1⟩
  | 10 => ⟨S1x1x1, .i32⟩
  | 11 => ⟨S4x40x1, .i32⟩
  | 12 => ⟨S4x40x1, .i1⟩
  | 13 => ⟨S4x40x1, .i1⟩
  | 14 => ⟨S_, .i1⟩
  | 15 => ⟨S4x40, .i1⟩
  | 16 => ⟨S4x40x768, .f32⟩
  | 17 => ⟨S4x40x768, .i1⟩
  | 18 => ⟨S_, .f32⟩
  | 19 => ⟨S4x40x768, .f32⟩
  | 20 => ⟨S4x40x768, .f32⟩
  | 21 => ⟨S_, .i32⟩
  | 22 => ⟨S4x40, .i32⟩
  | 23 => ⟨S4x40, .i1⟩
  | 24 => ⟨S_, .i32⟩
  | 25 => ⟨S4x40, .i32⟩
  | 26 => ⟨S4x40, .i32⟩
  | 27 => ⟨S4x40, .i32⟩
  | 28 => ⟨S4x40x1, .i32⟩
  | 29 => ⟨S4x40x2, .i32⟩
  | 30 => ⟨S4x40x40x768, .f32⟩
  | 31 => ⟨S4x1600x768, .f32⟩
  | 32 => ⟨S1x4x1x40x1x768, .f32⟩
  | 33 => ⟨S1x4x40x40x1x768, .f32⟩
  | 34 => ⟨S4x1600x768, .f32⟩
  | 35 => ⟨S4x1600x768, .f32⟩
  | 36 => ⟨S4x1600x2304, .f32⟩
  | 37 => ⟨S4x40x768, .f32⟩
  | 38 => ⟨S1x1x768, .f32⟩
  | 39 => ⟨S4x40x768, .f32⟩
  | 40 => ⟨S4x40x768, .f32⟩
  | 41 => ⟨S_, .f32⟩
  | 42 => ⟨S4x40x768, .f32⟩
  | 43 => ⟨S4x40x768, .f32⟩
  | 44 => ⟨S4x40x4, .f32⟩
  | 45 => ⟨S1x1x4, .f32⟩
  | 46 => ⟨S4x40x4, .f32⟩
  | 47 => ⟨S4x40x4, .f32⟩
  | 48 => ⟨S4x1600x768, .f32⟩
  | 49 => ⟨S1x1x768, .f32⟩
  | 50 => ⟨S4x1600x768, .f32⟩
  | 51 => ⟨S4x1600x768, .f32⟩
  | 52 => ⟨S_, .f32⟩
  | 53 => ⟨S4x1600x768, .f32⟩
  | 54 => ⟨S4x1600x768, .f32⟩
  | 55 => ⟨S4x1600x4, .f32⟩
  | 56 => ⟨S1x1x4, .f32⟩
  | 57 => ⟨S4x1600x4, .f32⟩
  | 58 => ⟨S4x1600x4, .f32⟩
  | 59 => ⟨S1x4x1x40x1x4, .f32⟩
  | 60 => ⟨S1x4x40x40x1x4, .f32⟩
  | 61 => ⟨S4x1600x4, .f32⟩
  | 62 => ⟨S4x40x40x4, .f32⟩
  | 63 => ⟨S4x1600x4, .f32⟩
  | 64 => ⟨S4x1600x4, .f32⟩
  | 65 => ⟨S4x1600x4, .f32⟩
  | 66 => ⟨S4x40x40x2, .i32⟩
  | 67 => ⟨S4x1600x2, .i32⟩
  | 68 => ⟨S1x4x1x40x1x2, .i32⟩
  | 69 => ⟨S1x4x40x40x1x2, .i32⟩
  | 70 => ⟨S4x1600x2, .i32⟩
  | 71 => ⟨S4x1600x1x2, .i32⟩
  | 72 => ⟨S4x1600x1x2, .i32⟩
  | 73 => ⟨S4x1600x2x2, .i32⟩
  | _ => ⟨S4x100x768, .f32⟩

abbrev hbmTy (i : Nat) : BufTy := match i / 128 with
  | 0 => hbmTy0_0 i
  | 1 => hbmTy0_1 i
  | _ => ⟨S4x100x768, .f32⟩

abbrev bufTy : (tb : Table) → Fin (tcTables nBuf tb) → BufTy
  | .hbm, ⟨i, _⟩ => hbmTy i
  | _, _ => ⟨S4x100x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_call1_v0 : Ref sig .tc := ⟨.hbm, 28, rfl⟩
abbrev main_call1_v1_0 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_v17 : Ref sig .tc := ⟨.hbm, 34, rfl⟩
abbrev main_call2_v0 : Ref sig .tc := ⟨.hbm, 35, rfl⟩
abbrev main_call2_call0_c : Ref sig .tc := ⟨.hbm, 36, rfl⟩
abbrev main_call2_call0_v0 : Ref sig .tc := ⟨.hbm, 37, rfl⟩
abbrev main_v18 : Ref sig .tc := ⟨.hbm, 38, rfl⟩
abbrev main_c : Ref sig .tc := ⟨.hbm, 39, rfl⟩
abbrev main_v19 : Ref sig .tc := ⟨.hbm, 40, rfl⟩
abbrev main_v20 : Ref sig .tc := ⟨.hbm, 41, rfl⟩
abbrev main_c_2 : Ref sig .tc := ⟨.hbm, 42, rfl⟩
abbrev main_v21 : Ref sig .tc := ⟨.hbm, 43, rfl⟩
abbrev main_v22 : Ref sig .tc := ⟨.hbm, 44, rfl⟩
abbrev main_c_3 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_c_4 : Ref sig .tc := ⟨.hbm, 49, rfl⟩
abbrev main_v26 : Ref sig .tc := ⟨.hbm, 50, rfl⟩
abbrev main_v27 : Ref sig .tc := ⟨.hbm, 51, rfl⟩
abbrev main_c_5 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c_6 : Ref sig .tc := ⟨.hbm, 56, rfl⟩
abbrev main_v31 : Ref sig .tc := ⟨.hbm, 57, rfl⟩
abbrev main_v32 : Ref sig .tc := ⟨.hbm, 58, rfl⟩
abbrev main_c_7 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_c_8 : Ref sig .tc := ⟨.hbm, 67, rfl⟩
abbrev main_v40 : Ref sig .tc := ⟨.hbm, 68, rfl⟩
abbrev main_v41 : Ref sig .tc := ⟨.hbm, 69, rfl⟩
abbrev main_call3_call0_c : Ref sig .tc := ⟨.hbm, 70, rfl⟩
abbrev main_call3_call0_v0 : Ref sig .tc := ⟨.hbm, 71, rfl⟩
abbrev main_v42 : Ref sig .tc := ⟨.hbm, 72, rfl⟩
abbrev main_c_9 : Ref sig .tc := ⟨.hbm, 73, rfl⟩
abbrev main_call4_v0 : Ref sig .tc := ⟨.hbm, 74, rfl⟩
abbrev main_call4_v1 : Ref sig .tc := ⟨.hbm, 75, rfl⟩
abbrev main_call4_v2 : Ref sig .tc := ⟨.hbm, 76, rfl⟩
abbrev main_call4_v3 : Ref sig .tc := ⟨.hbm, 77, rfl⟩
abbrev main_call4_v4 : Ref sig .tc := ⟨.hbm, 78, rfl⟩
abbrev main_call4_v5 : Ref sig .tc := ⟨.hbm, 79, rfl⟩
abbrev main_call4_v6 : Ref sig .tc := ⟨.hbm, 80, rfl⟩
abbrev main_call4_v7 : Ref sig .tc := ⟨.hbm, 81, rfl⟩
abbrev main_call4_v8 : Ref sig .tc := ⟨.hbm, 82, rfl⟩
abbrev main_call4_c : Ref sig .tc := ⟨.hbm, 83, rfl⟩
abbrev main_call4_v9 : Ref sig .tc := ⟨.hbm, 84, rfl⟩
abbrev main_call4_v10 : Ref sig .tc := ⟨.hbm, 85, rfl⟩
abbrev main_call4_v11 : Ref sig .tc := ⟨.hbm, 86, rfl⟩
abbrev main_call4_c_0 : Ref sig .tc := ⟨.hbm, 87, rfl⟩
abbrev main_call4_v12 : Ref sig .tc := ⟨.hbm, 88, rfl⟩
abbrev main_call4_v13 : Ref sig .tc := ⟨.hbm, 89, rfl⟩
abbrev main_v43 : Ref sig .tc := ⟨.hbm, 90, rfl⟩
abbrev main_c_10 : Ref sig .tc := ⟨.hbm, 91, rfl⟩
abbrev main_call5_v0 : Ref sig .tc := ⟨.hbm, 92, rfl⟩
abbrev main_call5_c : Ref sig .tc := ⟨.hbm, 93, rfl⟩
abbrev main_call5_v1 : Ref sig .tc := ⟨.hbm, 94, rfl⟩
abbrev main_call5_c_0 : Ref sig .tc := ⟨.hbm, 95, rfl⟩
abbrev main_call5_v2 : Ref sig .tc := ⟨.hbm, 96, rfl⟩
abbrev main_call5_v3 : Ref sig .tc := ⟨.hbm, 97, rfl⟩
abbrev main_call5_v4 : Ref sig .tc := ⟨.hbm, 98, rfl⟩
abbrev main_call5_c_1 : Ref sig .tc := ⟨.hbm, 99, rfl⟩
abbrev main_call5_v5 : Ref sig .tc := ⟨.hbm, 100, rfl⟩
abbrev main_call5_v6 : Ref sig .tc := ⟨.hbm, 101, rfl⟩
abbrev main_call5_c_2 : Ref sig .tc := ⟨.hbm, 102, rfl⟩
abbrev main_call5_v7 : Ref sig .tc := ⟨.hbm, 103, rfl⟩
abbrev main_call5_v8 : Ref sig .tc := ⟨.hbm, 104, rfl⟩
abbrev main_call5_c_3 : Ref sig .tc := ⟨.hbm, 105, rfl⟩
abbrev main_call5_v9 : Ref sig .tc := ⟨.hbm, 106, rfl⟩
abbrev main_call5_v10 : Ref sig .tc := ⟨.hbm, 107, rfl⟩
abbrev main_call5_v11 : Ref sig .tc := ⟨.hbm, 108, rfl⟩
abbrev main_call5_v12 : Ref sig .tc := ⟨.hbm, 109, rfl⟩
abbrev main_call5_v13 : Ref sig .tc := ⟨.hbm, 110, rfl⟩
abbrev main_call5_v14 : Ref sig .tc := ⟨.hbm, 111, rfl⟩
abbrev main_v44 : Ref sig .tc := ⟨.hbm, 112, rfl⟩
abbrev main_v45 : Ref sig .tc := ⟨.hbm, 113, rfl⟩
abbrev main_c_11 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_c_12 : Ref sig .tc := ⟨.hbm, 122, rfl⟩
abbrev main_call6_v0 : Ref sig .tc := ⟨.hbm, 123, rfl⟩
abbrev main_call6_v1 : Ref sig .tc := ⟨.hbm, 124, rfl⟩
abbrev main_v53 : Ref sig .tc := ⟨.hbm, 125, rfl⟩
abbrev main_v54 : Ref sig .tc := ⟨.hbm, 126, rfl⟩
abbrev main_call7_c : Ref sig .tc := ⟨.hbm, 127, rfl⟩
abbrev main_call7_v0 : Ref sig .tc := ⟨.hbm, 128, rfl⟩
abbrev main_call7_v1 : Ref sig .tc := ⟨.hbm, 129, rfl⟩
abbrev main_call7_c_0 : Ref sig .tc := ⟨.hbm, 130, rfl⟩
abbrev main_call7_v2 : Ref sig .tc := ⟨.hbm, 131, rfl⟩
abbrev main_call7_v3 : Ref sig .tc := ⟨.hbm, 132, rfl⟩
abbrev main_call7_v4 : Ref sig .tc := ⟨.hbm, 133, rfl⟩
abbrev main_call7_c_1 : Ref sig .tc := ⟨.hbm, 134, rfl⟩
abbrev main_call7_c_2 : Ref sig .tc := ⟨.hbm, 135, rfl⟩
abbrev main_call7_v5 : Ref sig .tc := ⟨.hbm, 136, rfl⟩
abbrev main_call7_v6 : Ref sig .tc := ⟨.hbm, 137, rfl⟩
abbrev main_call7_v7 : Ref sig .tc := ⟨.hbm, 138, rfl⟩
abbrev main_call7_v8 : Ref sig .tc := ⟨.hbm, 139, rfl⟩
abbrev main_call7_v9 : Ref sig .tc := ⟨.hbm, 140, rfl⟩
abbrev main_call7_v10 : Ref sig .tc := ⟨.hbm, 141, rfl⟩
abbrev main_call7_c_3 : Ref sig .tc := ⟨.hbm, 142, rfl⟩
abbrev main_call7_v11 : Ref sig .tc := ⟨.hbm, 143, rfl⟩
abbrev main_call7_v12 : Ref sig .tc := ⟨.hbm, 144, rfl⟩
abbrev main_call7_v13 : Ref sig .tc := ⟨.hbm, 145, rfl⟩
abbrev main_call7_cst : Ref sig .tc := ⟨.hbm, 146, rfl⟩
abbrev main_call7_v14 : Ref sig .tc := ⟨.hbm, 147, rfl⟩
abbrev main_v55 : Ref sig .tc := ⟨.hbm, 148, rfl⟩
abbrev main_c_13 : Ref sig .tc := ⟨.hbm, 149, rfl⟩
abbrev main_v56 : Ref sig .tc := ⟨.hbm, 150, rfl⟩
abbrev main_v57 : Ref sig .tc := ⟨.hbm, 151, rfl⟩
abbrev main_c_14 : Ref sig .tc := ⟨.hbm, 152, rfl⟩
abbrev main_v58 : Ref sig .tc := ⟨.hbm, 153, rfl⟩
abbrev main_v59 : Ref sig .tc := ⟨.hbm, 154, rfl⟩
abbrev main_v60 : Ref sig .tc := ⟨.hbm, 155, rfl⟩
abbrev main_v61 : Ref sig .tc := ⟨.hbm, 156, rfl⟩
abbrev main_v62 : Ref sig .tc := ⟨.hbm, 157, rfl⟩
abbrev main_v63 : Ref sig .tc := ⟨.hbm, 158, rfl⟩
abbrev main_v64 : Ref sig .tc := ⟨.hbm, 159, rfl⟩
abbrev main_v65 : Ref sig .tc := ⟨.hbm, 160, rfl⟩
abbrev main_v66 : Ref sig .tc := ⟨.hbm, 161, rfl⟩
abbrev main_v67 : Ref sig .tc := ⟨.hbm, 162, rfl⟩
abbrev main_v68 : Ref sig .tc := ⟨.hbm, 163, rfl⟩
abbrev main_v69 : Ref sig .tc := ⟨.hbm, 164, rfl⟩
abbrev main_v70 : Ref sig .tc := ⟨.hbm, 165, rfl⟩
abbrev main_v71 : Ref sig .tc := ⟨.hbm, 166, rfl⟩
abbrev main_v72 : Ref sig .tc := ⟨.hbm, 167, rfl⟩
abbrev main_v73 : Ref sig .tc := ⟨.hbm, 168, rfl⟩
abbrev main_call8_cst : Ref sig .tc := ⟨.hbm, 169, rfl⟩
abbrev main_call8_v0 : Ref sig .tc := ⟨.hbm, 170, rfl⟩
abbrev main_v74 : Ref sig .tc := ⟨.hbm, 171, rfl⟩
abbrev main_v75 : Ref sig .tc := ⟨.hbm, 172, rfl⟩
abbrev main_v76 : Ref sig .tc := ⟨.hbm, 173, rfl⟩
abbrev main_v77 : Ref sig .tc := ⟨.hbm, 174, rfl⟩
abbrev main_v78 : Ref sig .tc := ⟨.hbm, 175, rfl⟩
abbrev main_v79 : Ref sig .tc := ⟨.hbm, 176, rfl⟩
abbrev main_v80 : Ref sig .tc := ⟨.hbm, 177, rfl⟩
abbrev main_v81 : Ref sig .tc := ⟨.hbm, 178, rfl⟩
abbrev main_v82 : Ref sig .tc := ⟨.hbm, 179, rfl⟩
abbrev main_call9_cst : Ref sig .tc := ⟨.hbm, 180, rfl⟩
abbrev main_call9_v0 : Ref sig .tc := ⟨.hbm, 181, rfl⟩
abbrev main_v83 : Ref sig .tc := ⟨.hbm, 182, rfl⟩
abbrev main_v84 : Ref sig .tc := ⟨.hbm, 183, rfl⟩
abbrev main_v85 : Ref sig .tc := ⟨.hbm, 184, rfl⟩
abbrev main_v86 : Ref sig .tc := ⟨.hbm, 185, rfl⟩
abbrev main_v87 : Ref sig .tc := ⟨.hbm, 186, rfl⟩
abbrev main_v88 : Ref sig .tc := ⟨.hbm, 187, rfl⟩
abbrev main_v89 : Ref sig .tc := ⟨.hbm, 188, rfl⟩
abbrev main_v90 : Ref sig .tc := ⟨.hbm, 189, rfl⟩
abbrev main_v91 : Ref sig .tc := ⟨.hbm, 190, rfl⟩
abbrev main_v92 : Ref sig .tc := ⟨.hbm, 191, rfl⟩
abbrev main_v93 : Ref sig .tc := ⟨.hbm, 192, rfl⟩
abbrev main_v94 : Ref sig .tc := ⟨.hbm, 193, rfl⟩
abbrev main_v95 : Ref sig .tc := ⟨.hbm, 194, rfl⟩
abbrev main_v96 : Ref sig .tc := ⟨.hbm, 195, rfl⟩
abbrev main_v97 : Ref sig .tc := ⟨.hbm, 196, rfl⟩
abbrev main_v98 : Ref sig .tc := ⟨.hbm, 197, rfl⟩
abbrev main_v99 : Ref sig .tc := ⟨.hbm, 198, rfl⟩
abbrev main_v100 : Ref sig .tc := ⟨.hbm, 199, rfl⟩
abbrev main_v101 : Ref sig .tc := ⟨.hbm, 200, rfl⟩
abbrev main_v102 : Ref sig .tc := ⟨.hbm, 201, rfl⟩

abbrev nD : Nat := 1
abbrev τ : Topo := Topo.v7x

variable {F : FTy → Type} [FloatOps F]
-- ==== Proof.Selection.lean ====
/-
  The selection both programs make, as plain mathematics over `n` scores `h` of a linear order. Nothing here names a program.
  `rank h i` is the position of score `i` in the descending order that keeps the earlier of two equal scores first. The first `K` scores
  (by position in the operand, not by size) mark the positions their ranks name (`Marked`), and the `m`-th marked position, in
  ascending order, is `pick h K m`. It is defined as the number of positions at which the marked
  ones up to it are still at most `m`, and proved to be the marked position up to which they number `m + 1` (`marked_and_count_iff`).
  The marked positions number `K` (`card_marked`); position `j` of the stable sort by descending score holds one of the first `K`
  scores exactly when `j` is marked (`sortedFrom_lt_iff`).
-/
module

public import Idealize.ShloMosaic.Lib.SortFacts
public import Mathlib.Data.Nat.Count
public import Mathlib.Data.Fintype.Fin

@[expose] public section

namespace Cert.Selection

variable {n : Nat} {α : Type} [LinearOrder α]

/-- Score `k` stands before score `i`: it is larger, or equal and earlier. -/
def Before (h : Fin n → α) (k i : Fin n) : Prop := h i < h k ∨ (h k = h i ∧ k < i)

instance (h : Fin n → α) (k i : Fin n) : Decidable (Before h k i) := inferInstanceAs (Decidable (_ ∨ _))

/-- No position comes before itself. -/
theorem before_irrefl (h : Fin n → α) (i : Fin n) : ¬ Before h i i := by
  rintro (a | ⟨_, a⟩) <;> exact lt_irrefl _ a

/-- Coming before is transitive. -/
theorem before_trans (h : Fin n → α) {a b c : Fin n} (x : Before h a b) (y : Before h b c) : Before h a c := by
  rcases x with x | ⟨x, x'⟩ <;> rcases y with y | ⟨y, y'⟩
  · exact .inl (y.trans x)
  · exact .inl (y ▸ x)
  · exact .inl (x ▸ y)
  · exact .inr ⟨x.trans y, x'.trans y'⟩

/-- Of two different positions one comes before the other. -/
theorem before_total (h : Fin n → α) {a b : Fin n} (hab : a ≠ b) : Before h a b ∨ Before h b a := by
  rcases lt_trichotomy (h a) (h b) with x | x | x
  · exact .inr (.inl x)
  · rcases lt_or_gt_of_ne hab with y | y
    · exact .inl (.inr ⟨x, y⟩)
    · exact .inr (.inr ⟨x.symm, y⟩)
  · exact .inl (.inl x)

/-- The number of scores that stand before score `i`. -/
def rank (h : Fin n → α) (i : Fin n) : Nat := (Finset.univ.filter fun k => Before h k i).card

/-- A rank is below the number of positions. -/
theorem rank_lt (h : Fin n → α) (i : Fin n) : rank h i < n := by
  have : (Finset.univ.filter fun k => Before h k i) ⊂ Finset.univ :=
    Finset.filter_ssubset.2 ⟨i, Finset.mem_univ _, before_irrefl h i⟩
  simpa [rank] using Finset.card_lt_card this

/-- A score that stands before another has the smaller rank. -/
theorem rank_lt_rank (h : Fin n → α) {a b : Fin n} (x : Before h a b) : rank h a < rank h b := by
  refine Finset.card_lt_card (Finset.ssubset_iff_of_subset (fun k hk => ?_) |>.2 ⟨a, ?_, ?_⟩)
  · exact Finset.mem_filter.2 ⟨Finset.mem_univ _, before_trans h (Finset.mem_filter.1 hk).2 x⟩
  · exact Finset.mem_filter.2 ⟨Finset.mem_univ _, x⟩
  · exact fun hk => before_irrefl h a (Finset.mem_filter.1 hk).2

/-- Different scores have different ranks. -/
theorem rank_injective (h : Fin n → α) : Function.Injective (rank h) := fun a b hab => by
  by_contra hne
  rcases before_total h hne with x | x
  · exact absurd hab (rank_lt_rank h x).ne
  · exact absurd hab (rank_lt_rank h x).ne'

/-- Position `j` is marked: it is the rank of one of the first `K` scores. -/
def Marked (h : Fin n → α) (K : Nat) (j : Nat) : Prop := ∃ i : Fin n, i.val < K ∧ rank h i = j

instance (h : Fin n → α) (K j : Nat) : Decidable (Marked h K j) := inferInstanceAs (Decidable (∃ _, _))

/-- The marked positions up to and including `j` number `count h K j`. -/
def count (h : Fin n → α) (K : Nat) (j : Nat) : Nat := (Finset.univ.filter fun k : Fin n => k.val ≤ j ∧ Marked h K k.val).card

/-- The marked positions number `K`. -/
theorem card_marked (h : Fin n → α) (K : Nat) (hK : K ≤ n) : (Finset.univ.filter fun k : Fin n => Marked h K k.val).card = K := by
  have e : (Finset.univ.filter fun k : Fin n => Marked h K k.val)
      = (Finset.univ.filter fun i : Fin n => i.val < K).image fun i => ⟨rank h i, rank_lt h i⟩ := by
    ext k
    rw [Finset.mem_filter, Finset.mem_image]
    simp only [Finset.mem_filter, Finset.mem_univ, true_and, Marked, Fin.ext_iff]
  rw [e, Finset.card_image_of_injective _ fun a b hab => rank_injective h (Fin.ext_iff.1 hab), Fin.card_filter_val_lt, min_eq_right hK]

/-- The running count at `j` is the number of marked positions up to `j`. -/
theorem count_eq (h : Fin n → α) (K : Nat) {j : Nat} (hj : j < n) : count h K j = Nat.count (Marked h K) (j + 1) := by
  rw [Nat.count_eq_card_filter_range, count]
  refine Finset.card_bij (fun a _ => a.val) (fun a ha => ?_) (fun a _ b _ hab => Fin.ext hab) fun b hb => ?_
  · obtain ⟨_, h1, h2⟩ := Finset.mem_filter.1 ha
    exact Finset.mem_filter.2 ⟨Finset.mem_range.2 (by omega), h2⟩
  · obtain ⟨h1, h2⟩ := Finset.mem_filter.1 hb
    have h1 := Finset.mem_range.1 h1
    have hb : b < n := by omega
    exact ⟨⟨b, hb⟩, Finset.mem_filter.2 ⟨Finset.mem_univ _, by show b ≤ j; omega, h2⟩, rfl⟩

/-- Exactly `K` positions are marked. -/
theorem count_all (h : Fin n → α) (K : Nat) (hK : K ≤ n) : Nat.count (Marked h K) n = K := by
  rcases Nat.eq_zero_or_pos n with rfl | hn
  · rw [Nat.count_zero]; omega
  · have := count_eq h K (j := n - 1) (by omega)
    rw [Nat.sub_add_cancel hn] at this
    rw [← this, count]
    refine Eq.trans (congrArg Finset.card (Finset.filter_congr fun k _ => ⟨fun x => x.2, fun x => ⟨?_, x⟩⟩)) (card_marked h K hK)
    have := k.isLt
    omega

/-- The number of positions at which the count is still at most `m`: the `m`-th marked position (`marked_and_count_iff`). -/
def pick (h : Fin n → α) (K m : Nat) : Nat := (Finset.univ.filter fun j : Fin n => count h K j.val ≤ m).card

/-- The positions at which the count is still at most `m` are those before the pick. -/
theorem count_le_iff (h : Fin n → α) (K m : Nat) {j : Nat} (hj : j < n) : Nat.count (Marked h K) (j + 1) ≤ m ↔ j < pick h K m := by
  constructor
  · intro hc
    have : (Finset.univ.filter fun i : Fin n => i.val < j + 1).card ≤ pick h K m := by
      refine Finset.card_le_card fun i hi => ?_
      have hi := (Finset.mem_filter.1 hi).2
      refine Finset.mem_filter.2 ⟨Finset.mem_univ _, ?_⟩
      rw [count_eq h K i.isLt]
      exact (Nat.count_monotone _ (by omega)).trans hc
    rw [Fin.card_filter_val_lt] at this
    omega
  · intro hp
    by_contra hc
    have : pick h K m ≤ (Finset.univ.filter fun i : Fin n => i.val < j).card := by
      refine Finset.card_le_card fun i hi => ?_
      have hi := (Finset.mem_filter.1 hi).2
      refine Finset.mem_filter.2 ⟨Finset.mem_univ _, ?_⟩
      rw [count_eq h K i.isLt] at hi
      by_contra hij
      exact hc ((Nat.count_monotone _ (by omega)).trans hi)
    rw [Fin.card_filter_val_lt] at this
    omega

/-- Below `K` the pick is a position. -/
theorem pick_lt (h : Fin n → α) (K : Nat) (hK : K ≤ n) {m : Nat} (hm : m < K) : pick h K m < n := by
  have hn : n - 1 < n := by omega
  have := (count_le_iff h K m hn).not
  rw [Nat.sub_add_cancel (by omega), count_all h K hK] at this
  have := this.1 (by omega)
  omega

/-- Position `j` is the `m`-th marked one exactly when it is marked and the marked positions up to it number `m + 1`. -/
theorem marked_and_count_iff (h : Fin n → α) (K m : Nat) {j : Nat} (hj : j < n) :
    (Marked h K j ∧ count h K j = m + 1) ↔ j = pick h K m := by
  rw [count_eq h K hj]
  have h1 := count_le_iff h K m hj
  have h2 : Nat.count (Marked h K) j ≤ m ↔ j ≤ pick h K m := by
    rcases Nat.eq_zero_or_pos j with rfl | hp
    · simp
    · have := count_le_iff h K m (j := j - 1) (by omega)
      rw [Nat.sub_add_cancel hp] at this
      rw [this]
      omega
  rw [Nat.count_succ] at h1 ⊢
  by_cases hm : Marked h K j
  · simp only [hm, if_true, true_and] at h1 ⊢
    omega
  · simp only [hm, if_false, false_and, false_iff] at h1 ⊢
    omega

/-- The count never exceeds the number of positions. -/
theorem count_le (h : Fin n → α) (K : Nat) (j : Nat) : count h K j ≤ n :=
  (Finset.card_le_univ _).trans_eq (Fintype.card_fin n)

/-! ## The stable sort by descending score -/

open Idealize.ShloMosaic

/-- Inserting a position that is earlier than every entry of a list in the order `Before` keeps the order. -/
theorem pairwise_insertBefore_before (h : Fin n → α) (a : Fin n) (l : List (Fin n)) (ha : ∀ b ∈ l, a < b) (hl : l.Pairwise (Before h)) :
    (insertBefore (fun x y => decide (h y < h x)) a l).Pairwise (Before h) := by
  induction l with
  | nil => exact List.pairwise_singleton _ _
  | cons b l ih =>
    obtain ⟨hb, hl'⟩ := List.pairwise_cons.1 hl
    have hab := ha b List.mem_cons_self
    unfold insertBefore
    split
    · next hc =>
      have hc : h a < h b := of_decide_eq_true hc
      refine List.pairwise_cons.2 ⟨fun c hc' => ?_, ih (fun c hc' => ha c (List.mem_cons_of_mem _ hc')) hl'⟩
      rcases List.mem_cons.1 ((perm_insertBefore _ a l).mem_iff.1 hc') with rfl | hc'
      · exact .inl hc
      · exact hb c hc'
    · next hc =>
      have hc : ¬ h a < h b := fun x => hc (decide_eq_true x)
      have hab' : Before h a b := by
        rcases lt_or_eq_of_le (not_lt.1 hc) with x | x
        · exact .inl x
        · exact .inr ⟨x.symm, hab⟩
      refine List.pairwise_cons.2 ⟨fun c hc' => ?_, hl⟩
      rcases List.mem_cons.1 hc' with rfl | hc'
      · exact hab'
      · exact before_trans h hab' (hb c hc')

/-- The stable sort of an ascending list of positions by descending score is in the order `Before`. -/
theorem pairwise_stableSort_before (h : Fin n → α) (l : List (Fin n)) (hl : l.Pairwise (· < ·)) :
    (stableSort (fun x y => decide (h y < h x)) l).Pairwise (Before h) := by
  induction l with
  | nil => exact List.Pairwise.nil
  | cons a l ih =>
    obtain ⟨ha, hl'⟩ := List.pairwise_cons.1 hl
    unfold stableSort
    exact pairwise_insertBefore_before h a _ (fun b hb => ha b ((perm_stableSort _ l).mem_iff.1 hb)) (ih hl')

/-- Position `j` of the stable sort by descending score holds the score whose rank is `j`. -/
theorem rank_sortedFrom (h : Fin n → α) (j : Fin n) : rank h (sortedFrom (fun x y => decide (h y < h x)) j) = j.val := by
  have hs : ∀ a b : Fin n, a < b →
      Before h (sortedFrom (fun x y => decide (h y < h x)) a) (sortedFrom (fun x y => decide (h y < h x)) b) := fun a b hab => by
    have hp : ∀ a b : Fin (sortPositions n fun x y => decide (h y < h x)).length, a < b →
        Before h ((sortPositions n fun x y => decide (h y < h x)).get a) ((sortPositions n fun x y => decide (h y < h x)).get b) :=
      List.pairwise_iff_get.1 (pairwise_stableSort_before h _ (List.pairwise_lt_finRange n))
    unfold sortedFrom
    exact hp _ _ (by simp only [Fin.lt_def, Fin.val_cast]; exact hab)
  have hiff : ∀ a b : Fin n,
      Before h (sortedFrom (fun x y => decide (h y < h x)) a) (sortedFrom (fun x y => decide (h y < h x)) b) ↔ a < b := fun a b => by
    refine ⟨fun x => ?_, hs a b⟩
    by_contra hab
    rcases lt_or_eq_of_le (not_lt.1 hab) with y | y
    · exact before_irrefl h _ (before_trans h x (hs b a y))
    · subst y
      exact before_irrefl h _ x
  have : (Finset.univ.filter fun a : Fin n => a.val < j.val).card = rank h (sortedFrom (fun x y => decide (h y < h x)) j) := by
    refine Finset.card_bij (fun a _ => sortedFrom (fun x y => decide (h y < h x)) a) (fun a ha => ?_)
      (fun a _ b _ hab => sortedFrom_injective _ hab) fun b hb => ?_
    · exact Finset.mem_filter.2 ⟨Finset.mem_univ _, (hiff a j).2 (Finset.mem_filter.1 ha).2⟩
    · obtain ⟨a, rfl⟩ := sortedFrom_surjective (fun x y => decide (h y < h x)) b
      exact ⟨a, Finset.mem_filter.2 ⟨Finset.mem_univ _, (hiff a j).1 (Finset.mem_filter.1 hb).2⟩, rfl⟩
  rw [← this, Fin.card_filter_val_lt, min_eq_right j.isLt.le]

/-- So position `j` of that sort holds one of the first `K` scores exactly when `j` is marked. -/
theorem sortedFrom_lt_iff (h : Fin n → α) (K : Nat) (j : Fin n) :
    (sortedFrom (fun x y => decide (h y < h x)) j).val < K ↔ Marked h K j.val := by
  constructor
  · exact fun x => ⟨_, x, rank_sortedFrom h j⟩
  · rintro ⟨i, hi, e⟩
    rwa [← rank_injective h (e.trans (rank_sortedFrom h j).symm)]

end Cert.Selection
-- ==== Proof.Numbers.lean ====
/-
  The numbers the two programs write down, read in the extended reals: small whole constants, positions as reals, and sums of
  zeros and ones as cardinalities. Nothing here names a program.
-/
module

public import Idealize.ShloMosaic.Lib.Pointwise

@[expose] public section

namespace Cert.Numbers

open Idealize.ShloMosaic

/-- The word `0x42200000` is 40. -/
theorem ofBits_40 : Ideal.ofBits .f32 0x42200000#32 = ((40 : Nat) : EReal) := by
  have : Ideal.ofBits .f32 0x42200000#32 = ((40 : ℝ) : EReal) := by
    simp [Ideal.ofBits, Ideal.ieee, -EReal.coe_mul]
    norm_num
  rw [this, ← EReal.coe_coe_eq_natCast]
  norm_num

/-- The word `0x42C80000` is 100. -/
theorem ofBits_100 : Ideal.ofBits .f32 0x42C80000#32 = ((100 : Nat) : EReal) := by
  have : Ideal.ofBits .f32 0x42C80000#32 = ((100 : ℝ) : EReal) := by
    simp [Ideal.ofBits, Ideal.ieee, -EReal.coe_mul]
    norm_num
  rw [this, ← EReal.coe_coe_eq_natCast]
  norm_num

/-- The word `0x43800000` is 256. -/
theorem ofBits_256 : Ideal.ofBits .f32 0x43800000#32 = ((256 : Nat) : EReal) := by
  have : Ideal.ofBits .f32 0x43800000#32 = ((256 : ℝ) : EReal) := by
    simp [Ideal.ofBits, Ideal.ieee, -EReal.coe_mul]
    norm_num
  rw [this, ← EReal.coe_coe_eq_natCast]
  norm_num

/-- A small position, converted to a float, is itself. -/
theorem sitofp_ofNat (i : Nat) (hi : i < 2 ^ 31) : FloatOps.sitofp (F := Ideal) FTy.f32 (BitVec.ofNat 32 i) = ((i : Nat) : EReal) := by
  show (((BitVec.ofNat 32 i).toInt : ℝ) : EReal) = _
  have : (BitVec.ofNat 32 i).toInt = (i : Int) := by
    rw [BitVec.toInt_eq_toNat_of_lt (by simp; omega)]
    simp; omega
  rw [this, Int.cast_natCast, EReal.coe_coe_eq_natCast]

/-- A choice by a printed condition. -/
theorem select_ofBool {α : Type} (p : Prop) [Decidable p] (a b : α) : Scalar.select (BitVec.ofBool (decide p)) a b = if p then a else b := by
  by_cases hp : p <;> simp [hp, Scalar.select]

/-- A choice by two printed conditions. -/
theorem select_andi {α : Type} (p q : Prop) [Decidable p] [Decidable q] (a b : α) :
    Scalar.select (IntOp.andi (BitVec.ofBool (decide p)) (BitVec.ofBool (decide q))) a b = if p ∧ q then a else b := by
  by_cases hp : p <;> by_cases hq : q <;> simp [hp, hq, Scalar.select, IntOp.andi]

/-- A sum of zeros and ones is the number of the ones. -/
theorem sum_ite_one {ι : Type} [Fintype ι] (p : ι → Prop) [DecidablePred p] :
    (∑ i, if p i then (1 : EReal) else 0) = ((Finset.univ.filter p).card : EReal) := by
  rw [Finset.sum_ite, Finset.sum_const, Finset.sum_const_zero, add_zero, nsmul_one]

/-- A sum against the indicator of one position is the term there. -/
theorem sum_ite_mul {ι : Type} [Fintype ι] [DecidableEq ι] (a : ι) (f : ι → EReal) :
    (∑ i, (if i = a then (1 : EReal) else 0) * f i) = f a := by
  rw [Finset.sum_eq_single a (fun b _ hb => by rw [if_neg hb, zero_mul]) (fun h => absurd (Finset.mem_univ a) h), if_pos rfl, one_mul]

/-- A whole number rounds to itself. -/
theorem roundHalfEven_int (z : Int) : Ideal.roundHalfEven (z : ℝ) = z := by
  simp [Ideal.roundHalfEven]

/-- A word, read as a whole number, rounded and converted back, is itself. -/
theorem word_back (w : BitVec 32) :
    FloatOps.fptosi (F := Ideal) (φ := .f32) 32 (Ideal.liftRound Ideal.roundHalfEven ((w.toInt : ℝ) : EReal)) = w := by
  show Ideal.fptosi 32 (((Ideal.roundHalfEven (w.toInt : ℝ) : ℝ)) : EReal) = w
  rw [roundHalfEven_int]
  show BitVec.ofInt 32 (max _ (min _ (if (0 : ℝ) ≤ (w.toInt : ℝ) then ⌊(w.toInt : ℝ)⌋ else ⌈(w.toInt : ℝ)⌉))) = w
  rw [Int.floor_intCast, Int.ceil_intCast, ite_self]
  have h1 := BitVec.toInt_lt (x := w)
  have h2 := BitVec.le_toInt (x := w)
  rw [min_eq_right (by norm_num at h1 ⊢; omega), max_eq_right (by norm_num at h2 ⊢; omega), BitVec.ofInt_toInt]

end Cert.Numbers
-- ==== Proof.Formula.lean ====
/-
  The two results as formulas over the extended reals: the two-layer scorer of one row, the two-layer scorer of a pair of rows (whose
  first layer reads both rows and their product through three blocks of 768 weights), and their sum. Nothing here names a program.
-/
module

public import proofs.«01_k».proof.Proof.Selection
public import Idealize.ShloMosaic.Lib.Pointwise

@[expose] public section

noncomputable section

namespace Cert.Formula

open Idealize.ShloMosaic Cert.Selection

/-- The score of one row `x` in class `e`: two layers, the first rectified. -/
def single (x : Fin 768 → EReal) (W1 : Fin 768 → Fin 768 → EReal) (b1 : Fin 768 → EReal) (W2 : Fin 768 → Fin 4 → EReal) (b2 : Fin 4 → EReal)
    (e : Fin 4) : EReal :=
  (∑ d : Fin 768, max ((∑ k : Fin 768, x k * W1 k d) + b1 d) 0 * W2 d e) + b2 e

/-- The score of a pair of rows `x`, `y` in class `e`: two layers, the first rectified and reading `x`, `y` and their product. -/
def pair (x y : Fin 768 → EReal) (P1 : Fin 2304 → Fin 768 → EReal) (c1 : Fin 768 → EReal) (P2 : Fin 768 → Fin 4 → EReal) (c2 : Fin 4 → EReal)
    (e : Fin 4) : EReal :=
  (∑ d : Fin 768, max ((((∑ k : Fin 768, x k * P1 ⟨k.val, by omega⟩ d) + ∑ k : Fin 768, y k * P1 ⟨768 + k.val, by omega⟩ d)
      + ∑ k : Fin 768, x k * y k * P1 ⟨1536 + k.val, by omega⟩ d) + c1 d) 0 * P2 d e) + c2 e

/-- A score of the first result: the pair's, the second row's and the first row's. -/
def logit (x y : Fin 768 → EReal) (W1 : Fin 768 → Fin 768 → EReal) (b1 : Fin 768 → EReal) (W2 : Fin 768 → Fin 4 → EReal) (b2 : Fin 4 → EReal)
    (P1 : Fin 2304 → Fin 768 → EReal) (c1 : Fin 768 → EReal) (P2 : Fin 768 → Fin 4 → EReal) (c2 : Fin 4 → EReal) (e : Fin 4) : EReal :=
  (pair x y P1 c1 P2 c2 e + single y W1 b1 W2 b2 e) + single x W1 b1 W2 b2 e

/-- Pair number `r` of 1600 is row `r / 40` with row `r % 40`. -/
def fst (r : Fin 1600) : Fin 40 := ⟨r.val / 40, by omega⟩

/-- Its second row. -/
def snd (r : Fin 1600) : Fin 40 := ⟨r.val % 40, by omega⟩

/-- The `m`-th marked position of 100 scores, for `m` below 40. -/
def at40 (h : Fin 100 → EReal) (m : Fin 40) : Fin 100 := ⟨pick h 40 m.val, pick_lt h 40 (by omega) m.isLt⟩

/-- The mean of a row's scores in classes 1, 2 and 3 (the word `0x40400000` is 3). -/
def mean (x : Fin 768 → EReal) (W1 : Fin 768 → Fin 768 → EReal) (b1 : Fin 768 → EReal) (W2 : Fin 768 → Fin 4 → EReal) (b2 : Fin 4 → EReal) : EReal :=
  Ideal.div (∑ e : Fin 3, single x W1 b1 W2 b2 ⟨1 + e.val, by omega⟩) (Ideal.ofBits .f32 0x40400000#32)

/-- The `m`-th of the 40 rows selected in group `b`. -/
def sel (x : Fin 4 → Fin 100 → Fin 768 → EReal) (W1 : Fin 768 → Fin 768 → EReal) (b1 : Fin 768 → EReal) (W2 : Fin 768 → Fin 4 → EReal)
    (b2 : Fin 4 → EReal) (b : Fin 4) (m : Fin 40) : Fin 100 :=
  at40 (fun k => mean (x b k) W1 b1 W2 b2) m

/-- The first result: the scores of every pair of selected rows of every group. -/
def result1 (x : Fin 4 → Fin 100 → Fin 768 → EReal) (W1 : Fin 768 → Fin 768 → EReal) (b1 : Fin 768 → EReal) (W2 : Fin 768 → Fin 4 → EReal)
    (b2 : Fin 4 → EReal) (P1 : Fin 2304 → Fin 768 → EReal) (c1 : Fin 768 → EReal) (P2 : Fin 768 → Fin 4 → EReal) (c2 : Fin 4 → EReal)
    (b : Fin 4) (r : Fin 1600) (e : Fin 4) : EReal :=
  logit (x b (sel x W1 b1 W2 b2 b (fst r))) (x b (sel x W1 b1 W2 b2 b (snd r))) W1 b1 W2 b2 P1 c1 P2 c2 e

/-- The second result: the ranges of the two rows of every pair. -/
def result2 (x : Fin 4 → Fin 100 → Fin 768 → EReal) (W1 : Fin 768 → Fin 768 → EReal) (b1 : Fin 768 → EReal) (W2 : Fin 768 → Fin 4 → EReal)
    (b2 : Fin 4 → EReal) (s : Fin 100 → Fin 2 → BitVec 32) (b : Fin 4) (r : Fin 1600) (p q : Fin 2) : BitVec 32 :=
  s (sel x W1 b1 W2 b2 b (if p = 0 then fst r else snd r)) q

/-- The first result as a table, from the tables of the arguments. -/
def table1 (x : FVec Ideal ⟨3, ![4, 100, 768]⟩ .f32) (W1 : FVec Ideal ⟨2, ![768, 768]⟩ .f32) (b1 : FVec Ideal ⟨1, ![768]⟩ .f32) (W2 : FVec Ideal ⟨2, ![768, 4]⟩ .f32) (b2 : FVec Ideal ⟨1, ![4]⟩ .f32)
    (P1 : FVec Ideal ⟨2, ![2304, 768]⟩ .f32) (c1 : FVec Ideal ⟨1, ![768]⟩ .f32) (P2 : FVec Ideal ⟨2, ![768, 4]⟩ .f32) (c2 : FVec Ideal ⟨1, ![4]⟩ .f32) : FVec Ideal ⟨3, ![4, 1600, 4]⟩ .f32 := fun i =>
  result1 (fun b k d => x (ix3 b k d)) (fun k d => W1 (ix2 k d)) (fun d => b1 (ix1 d)) (fun d e => W2 (ix2 d e)) (fun e => b2 (ix1 e))
    (fun k d => P1 (ix2 k d)) (fun d => c1 (ix1 d)) (fun d e => P2 (ix2 d e)) (fun e => c2 (ix1 e)) (i 0) (i 1) (i 2)

/-- The second result as a table, from the tables of the arguments. -/
def table2 (x : FVec Ideal ⟨3, ![4, 100, 768]⟩ .f32) (W1 : FVec Ideal ⟨2, ![768, 768]⟩ .f32) (b1 : FVec Ideal ⟨1, ![768]⟩ .f32) (W2 : FVec Ideal ⟨2, ![768, 4]⟩ .f32) (b2 : FVec Ideal ⟨1, ![4]⟩ .f32)
    (s : IVec ⟨2, ![100, 2]⟩ 32) : IVec ⟨4, ![4, 1600, 2, 2]⟩ 32 := fun i =>
  result2 (fun b k d => x (ix3 b k d)) (fun k d => W1 (ix2 k d)) (fun d => b1 (ix1 d)) (fun d e => W2 (ix2 d e)) (fun e => b2 (ix1 e))
    (fun k q => s (ix2 k q)) (i 0) (i 1) (i 2) (i 3)

end Cert.Formula
-- ==== Proof.KernelPick.lean ====
/-
  What one block's selection matrix holds. The kernel counts, for each of its 100 scores, the scores that stand before it, marks the
  ranks of the first 40 scores, counts the marks up to each position, and builds the matrix whose row `m` is the indicator of the
  `m`-th marked position. Read in the extended reals every count is exact, so the matrix is that indicator
  (`pickMatrix_apply`) and a product with it selects rows (`rows_apply`, `ranges_apply`).
-/
module

public import proofs.«01_k».proof.Proof.Gen.KernelIdeal.Skeleton
public import proofs.«01_k».proof.Proof.Selection
public import proofs.«01_k».proof.Proof.Numbers
public import proofs.«01_k».proof.Proof.Formula

@[expose] public section

set_option maxRecDepth 16384

noncomputable section

namespace Cert.KernelIdeal.Block

open Cert.KernelIdeal Cert.KernelIdeal.Gen Idealize.ShloMosaic Cert.Selection Cert.Numbers Cert.Formula

/-- The row number of an entry. -/
theorem rowNo_apply (i : Fin 128) (j : Fin 100) : k0_pay3 (F := Ideal) (ix2 i j) = (i.val : EReal) := by
  pointwise [k0_pay3]
  exact sitofp_ofNat _ (by have := i.isLt; omega)

/-- The column number of an entry. -/
theorem colNo_apply (i : Fin 128) (j : Fin 100) : k0_pay4 (F := Ideal) (ix2 i j) = (j.val : EReal) := by
  pointwise [k0_pay4]
  exact sitofp_ofNat _ (by have := j.isLt; omega)

/-- The indicator of the diagonal. -/
theorem diag_apply (i : Fin 128) (j : Fin 100) : k0_pay5 (F := Ideal) (ix2 i j) = if j.val = i.val then 1 else 0 := by
  pointwise [k0_pay5]
  rw [rowNo_apply, colNo_apply]
  simp only [EReal.natCast_eq_iff, eq_comm]

/-- A row of the diagonal's indicator against a row of values. -/
theorem diag_sum (i : Fin 128) (f : Fin 100 → EReal) :
    (∑ x : Fin 100, k0_pay5 (F := Ideal) (ix2 i x) * f x) = if hi : i.val < 100 then f ⟨i.val, hi⟩ else 0 := by
  simp only [diag_apply]
  split
  · next hi =>
    have e : ∀ x : Fin 100, (x.val = i.val) = (x = ⟨i.val, hi⟩) := fun x => by rw [Fin.ext_iff]
    simp only [e]
    exact sum_ite_mul _ _
  · next hi =>
    refine Finset.sum_eq_zero fun x _ => ?_
    rw [if_neg (by have := x.isLt; omega), zero_mul]

/-- The scores of a block. -/
def scores (v2 : Vec Ideal S1x1x100 .f32) : Fin 100 → EReal := fun k => v2 (ix3 0 0 k)

/-- The column of ranks: below row 100 the rank of that score. -/
theorem rank_apply (v2 : Vec Ideal S1x1x100 .f32) (i : Fin 128) :
    k0_pay6 (F := Ideal) v2 (ix2 i 0) = if hi : i.val < 100 then (rank (scores v2) ⟨i.val, hi⟩ : EReal) else (256 : Nat) := by
  pointwise [k0_pay6]
  have hd := diag_sum i fun x => v2 (ix3 0 0 x)
  rw [hd]
  simp only [rowNo_apply, colNo_apply, ofBits_100, ofBits_256, EReal.natCast_lt_iff]
  by_cases hi : i.val < 100
  · simp only [hi, if_true, dif_pos]
    rw [rank, ← sum_ite_one]
    refine Finset.sum_congr rfl fun x _ => ?_
    simp only [select_andi, Before, scores, Fin.lt_def]
    by_cases h1 : v2 (ix3 0 0 ⟨i.val, hi⟩) < v2 (ix3 0 0 x)
    · have h2 : ¬ v2 (ix3 0 0 x) = v2 (ix3 0 0 ⟨i.val, hi⟩) := h1.ne'
      simp only [h1, h2, if_true, false_and, if_false, true_or, add_zero]
    · simp only [h1, if_false, false_or, zero_add]
  · simp only [hi, if_false, dif_neg, not_false_eq_true]

/-- The first 40 rows. -/
theorem first_apply (i : Fin 128) (j : Fin 100) : k0_pay7 (F := Ideal) (ix2 i j) = BitVec.ofBool (decide (i.val < 40)) := by
  pointwise [k0_pay7]
  rw [rowNo_apply, ofBits_40]
  simp only [EReal.natCast_lt_iff]

/-- The row of marks: the indicator of the marked positions. -/
theorem mark_sum (v2 : Vec Ideal S1x1x100 .f32) (j : Fin 100) :
    (∑ x : Fin 128, if x.val < 40 then (if k0_pay6 (F := Ideal) v2 (ix2 x 0) = (j.val : EReal) then (1 : EReal) else 0) else 0)
      = if Marked (scores v2) 40 j.val then 1 else 0 := by
  have e : ∀ x : Fin 128, (if x.val < 40 then (if k0_pay6 (F := Ideal) v2 (ix2 x 0) = (j.val : EReal) then (1 : EReal) else 0) else 0)
      = if ∃ hx : x.val < 40, rank (scores v2) ⟨x.val, by omega⟩ = j.val then 1 else 0 := fun x => by
    rw [rank_apply]
    by_cases hx : x.val < 40
    · have hx' : x.val < 100 := by omega
      simp only [hx, hx', dif_pos, EReal.natCast_eq_iff, if_true, exists_true_left]
    · simp only [hx, if_false, IsEmpty.exists_iff]
  rw [Finset.sum_congr rfl fun x _ => e x]
  by_cases hm : Marked (scores v2) 40 j.val
  · obtain ⟨i, hi, hr⟩ := hm
    rw [if_pos ⟨i, hi, hr⟩, Finset.sum_eq_single (⟨i.val, by omega⟩ : Fin 128), if_pos ⟨hi, hr⟩]
    · intro b _ hb
      refine if_neg ?_
      rintro ⟨hb', hr'⟩
      refine hb (Fin.ext ?_)
      have := rank_injective (scores v2) (hr'.trans hr.symm)
      exact (Fin.ext_iff.1 this :)
    · exact fun h => absurd (Finset.mem_univ _) h
  · rw [if_neg hm]
    refine Finset.sum_eq_zero fun x _ => if_neg ?_
    rintro ⟨hx, hr⟩
    exact hm ⟨_, hx, hr⟩

/-- The marks counted up to a position. -/
theorem count_sum (v2 : Vec Ideal S1x1x100 .f32) (j : Fin 100) :
    (∑ x : Fin 128, (if (x.val : EReal) ≤ (j.val : EReal) then (1 : EReal) else 0)
        * if hi : x.val < 100 then (if Marked (scores v2) 40 x.val then 1 else 0) else 0)
      = (Selection.count (scores v2) 40 j.val : EReal) := by
  have e : ∀ x : Fin 128, ((if (x.val : EReal) ≤ (j.val : EReal) then (1 : EReal) else 0)
        * if hi : x.val < 100 then (if Marked (scores v2) 40 x.val then 1 else 0) else 0)
      = if x.val ≤ j.val ∧ Marked (scores v2) 40 x.val then 1 else 0 := fun x => by
    have := j.isLt
    rw [ite_cond_congr (propext EReal.natCast_le_iff)]
    by_cases hx : x.val ≤ j.val
    · have hx' : x.val < 100 := by omega
      simp only [hx, hx', dif_pos, if_true, one_mul, true_and]
    · simp only [hx, if_false, zero_mul, false_and]
  rw [Finset.sum_congr rfl fun x _ => e x, sum_ite_one, Selection.count]
  congr 1
  refine Finset.card_bij' (fun a ha => (⟨a.val, ?_⟩ : Fin 100)) (fun a _ => (⟨a.val, by omega⟩ : Fin 128)) ?_ ?_ ?_ ?_
  · have := (Finset.mem_filter.1 ha).2.1
    have := j.isLt
    omega
  · exact fun a ha => Finset.mem_filter.2 ⟨Finset.mem_univ _, (Finset.mem_filter.1 ha).2⟩
  · exact fun a ha => Finset.mem_filter.2 ⟨Finset.mem_univ _, (Finset.mem_filter.1 ha).2⟩
  · exact fun a ha => rfl
  · exact fun a ha => rfl

/-- One less than a count is a position exactly when the count is the position's successor. -/
theorem sub_one_eq_iff (c m : Nat) : ((c : EReal) - 1 = (m : EReal)) ↔ c = m + 1 := by
  have : (c : EReal) - 1 = (((c : ℝ) - 1 : ℝ) : EReal) := by
    rw [EReal.coe_sub, EReal.coe_one, EReal.coe_coe_eq_natCast]
  rw [this, ← EReal.coe_coe_eq_natCast, EReal.coe_eq_coe_iff, sub_eq_iff_eq_add]
  exact_mod_cast Iff.rfl

/-- The selection matrix of a block's scores. -/
def pickMatrix (v2 : Vec Ideal S1x1x100 .f32) : FVec Ideal S128x100 .f32 :=
  k0_pay8 k0_pay3 k0_pay4 k0_pay5 (k0_pay6 v2) (k0_pay7 (F := Ideal)) (1 : EReal) (0 : EReal)

/-- Its row `m` is the indicator of the `m`-th marked position. -/
theorem pickMatrix_apply (v2 : Vec Ideal S1x1x100 .f32) (m : Fin 128) (j : Fin 100) :
    pickMatrix v2 (ix2 m j) = if j.val = pick (scores v2) 40 m.val then 1 else 0 := by
  pointwise [pickMatrix, k0_pay8]
  simp only [first_apply, select_ofBool, diag_sum, colNo_apply, rowNo_apply, mark_sum, count_sum, sub_one_eq_iff]
  by_cases hm : Marked (scores v2) 40 j.val
  · simp only [hm, if_true, one_mul]
    refine if_congr ((and_iff_right hm).symm.trans (marked_and_count_iff (scores v2) 40 m.val j.isLt)) rfl rfl
  · rw [if_neg hm, zero_mul, if_neg fun e => hm ((marked_and_count_iff (scores v2) 40 m.val j.isLt).2 e).1]

/-- Row `m` of the selection matrix, for `m` below 40, is the indicator of the `m`-th marked position. -/
theorem pickMatrix_apply40 (v2 : Vec Ideal S1x1x100 .f32) (m : Fin 128) (hm : m.val < 40) (j : Fin 100) :
    pickMatrix v2 (ix2 m j) = if j = at40 (scores v2) ⟨m.val, hm⟩ then 1 else 0 := by
  rw [pickMatrix_apply]
  simp only [at40, Fin.ext_iff]

/-- The first 40 rows of the product of the selection matrix with a matrix are the rows it selects. -/
theorem rows_apply (v1 : FVec Ideal S100x768 .f32) (v2 : Vec Ideal S1x1x100 .f32) (m : Fin 40) (d : Fin 768) :
    k0_pay9 v1 k0_pay3 k0_pay4 k0_pay5 (k0_pay6 v2) (k0_pay7 (F := Ideal)) (Scalar.ofBits .f32 0x3F800000#32) (Scalar.ofBits .f32 0x00000000#32) (ix2 m d)
      = v1 (ix2 (at40 (scores v2) m) d) := by
  pointwise [k0_pay9]
  refine (Finset.sum_congr rfl fun x _ => ?_).trans (sum_ite_mul (at40 (scores v2) m) fun x => v1 (ix2 x d))
  exact congrArg (· * _) (pickMatrix_apply40 v2 ⟨m.val, by omega⟩ m.isLt x)

/-- And of its product with the table of ranges, as reals. -/
theorem ranges_apply (v74 : Vec Ideal S100x2 .i32) (v2 : Vec Ideal S1x1x100 .f32) (m : Fin 40) (e : Fin 2) :
    k0_pay10 k0_pay3 k0_pay4 k0_pay5 (k0_pay6 v2) (k0_pay7 (F := Ideal)) (Scalar.ofBits .f32 0x3F800000#32) (Scalar.ofBits .f32 0x00000000#32) v74 (ix2 m e)
      = (((v74 (ix2 (at40 (scores v2) m) e)).toInt : ℝ) : EReal) := by
  pointwise [k0_pay10]
  refine (Finset.sum_congr rfl fun x _ => ?_).trans (sum_ite_mul (at40 (scores v2) m) fun x => (((v74 (ix2 x e)).toInt : ℝ) : EReal))
  exact congrArg (· * _) (pickMatrix_apply40 v2 ⟨m.val, by omega⟩ m.isLt x)

end Cert.KernelIdeal.Block
-- ==== Proof.KernelBlock.lean ====
/-
  What one block of the kernel leaves in its two output buffers, as the formulas over the block's 40 selected rows. The paddings of the
  narrow weights, biases and ranges to 128 columns are products with indicators, so a column below the narrow width reads the operand.
-/
module

public import proofs.«01_k».proof.Proof.Gen.KernelIdeal.Frame
public import proofs.«01_k».proof.Proof.KernelPick
public import proofs.«01_k».proof.Proof.Formula
public import Idealize.ShloMosaic.Lib.Pipeline.ValueKit

@[expose] public section

set_option maxRecDepth 16384

noncomputable section

namespace Cert.KernelIdeal.Block

open Cert.KernelIdeal Cert.KernelIdeal.Gen Idealize.ShloMosaic Cert.Selection Cert.Numbers Cert.Formula

/-- A choice by the equality of two small words. -/
theorem select_eq {α : Type} (a b : Nat) (ha : a < 2 ^ 32) (hb : b < 2 ^ 32) (x y : α) :
    Scalar.select (IntOp.cmpi .eq (BitVec.ofNat 32 a) (BitVec.ofNat 32 b)) x y = if a = b then x else y := by
  have : IntOp.cmpi .eq (BitVec.ofNat 32 a) (BitVec.ofNat 32 b) = BitVec.ofBool (decide (a = b)) := by
    show BitVec.ofBool (BitVec.ofNat 32 a == BitVec.ofNat 32 b) = _
    congr 1
    rw [Bool.eq_iff_iff]
    simp only [beq_iff_eq, decide_eq_true_eq, BitVec.toNat_eq, BitVec.toNat_ofNat, Nat.mod_eq_of_lt ha, Nat.mod_eq_of_lt hb]
  rw [this, select_ofBool]

/-- The padding matrix of width 4: the indicator of the diagonal. -/
theorem pad4_apply (i : Fin 4) (j : Fin 128) : k0_pay14 (F := Ideal) (ix2 i j) = if j.val = i.val then 1 else 0 := by
  pointwise [k0_pay14]
  exact select_eq _ _ (by omega) (by omega) _ _

/-- A row against the padding matrix, at a column below 4. -/
theorem pad4_sum (f : Fin 4 → EReal) (j : Fin 128) (hj : j.val < 4) : (∑ x : Fin 4, f x * k0_pay14 (F := Ideal) (ix2 x j)) = f ⟨j.val, hj⟩ := by
  refine (Finset.sum_congr rfl fun x _ => ?_).trans (sum_ite_mul (⟨j.val, hj⟩ : Fin 4) f)
  rw [pad4_apply, mul_comm]
  simp only [Fin.ext_iff, eq_comm]

/-- A block of the first output, over any selected rows. -/
theorem first_block (xr : FVec Ideal S40x768 .f32) (x3 : Vec Ideal S768x768 .f32) (x4 : Vec Ideal S1x768 .f32) (x5 : Vec Ideal S768x4 .f32)
    (x6 : Vec Ideal S1x4 .f32) (x7 : Vec Ideal S2304x768 .f32) (x8 : Vec Ideal S1x768 .f32) (x9 : Vec Ideal S768x4 .f32) (x10 : Vec Ideal S1x4 .f32)
    (r : Fin 1600) (j : Fin 128) (hj : j.val < 4) :
    k0_pay19 (F := Ideal) xr (k0_pay15 x9) (k0_pay16 x10) (k0_pay17 xr x5 x3 x4) (k0_pay18 x6)
        (View.ld x7 r0_7) (View.ld x7 r0_8) (View.ld x7 r0_9) x8 (ix3 0 r j)
      = logit (fun d => xr (ix2 (fst r) d)) (fun d => xr (ix2 (snd r) d)) (fun k d => x3 (ix2 k d)) (fun d => x4 (ix2 0 d))
          (fun d e => x5 (ix2 d e)) (fun e => x6 (ix2 0 e)) (fun k d => x7 (ix2 k d)) (fun d => x8 (ix2 0 d)) (fun d e => x9 (ix2 d e))
          (fun e => x10 (ix2 0 e)) ⟨j.val, hj⟩ := by
  pointwise [k0_pay19, k0_pay15, k0_pay16, k0_pay17, k0_pay18, logit, pair, single, fst, snd]
  simp only [pad4_sum (fun e => _) j hj]
  exact congrArg (· + _) (congrArg (· + _) (congrArg (· + _) (Finset.sum_congr rfl fun d _ =>
    congrArg (fun t => max (t + x8 (ix2 0 d)) 0 * x9 (ix2 d ⟨j.val, hj⟩)) (add_rotate _ _ _))))

/-- The left ranges placed in columns 0 and 1. -/
theorem left_apply (v77 : FVec Ideal S40x2 .f32) (m : Fin 40) (j : Fin 128) :
    k0_pay12 (F := Ideal) v77 k0_pay11 (ix2 m j) = ∑ x : Fin 2, (if j.val = x.val then v77 (ix2 m x) else 0) := by
  pointwise [k0_pay12, k0_pay11]
  refine Finset.sum_congr rfl fun x _ => ?_
  rw [select_eq _ _ (by omega) (by omega)]

/-- The right ranges placed in columns 2 and 3. -/
theorem right_apply (v77 : FVec Ideal S40x2 .f32) (m : Fin 40) (j : Fin 128) :
    k0_pay13 (F := Ideal) v77 (iota .tc S2x128 32 [1] iota_S2x128_d1_w32) (iota .tc S2x128 32 [0] iota_S2x128_d0_w32) (ix2 m j)
      = ∑ x : Fin 2, (if j.val = x.val + 2 then v77 (ix2 m x) else 0) := by
  pointwise [k0_pay13]
  refine Finset.sum_congr rfl fun x _ => ?_
  rw [show IntOp.addi (BitVec.ofNat 32 x.val) 2#32 = BitVec.ofNat 32 (x.val + 2) from by
    show BitVec.ofNat 32 x.val + 2#32 = _
    rw [BitVec.ofNat_add]]
  rw [select_eq _ _ (by omega) (by omega)]

/-- A block of the second output, over any ranges of the selected rows: column `2 p + q` of row `r` holds entry `q` of the range of the
    pair's first (`p = 0`) or second (`p = 1`) row. -/
theorem second_block (v77 : FVec Ideal S40x2 .f32) (r : Fin 1600) (p q : Fin 2) (j : Fin 128) (hj : j.val = 2 * p.val + q.val) :
    k0_pay1 (F := Ideal) (k0_pay13 v77 (iota .tc S2x128 32 [1] iota_S2x128_d1_w32) (iota .tc S2x128 32 [0] iota_S2x128_d0_w32))
        (k0_pay20 (k0_pay12 v77 k0_pay11)) (ix3 0 r j) = v77 (ix2 (if p = 0 then fst r else snd r) q) := by
  have h : k0_pay1 (F := Ideal) (k0_pay13 v77 (iota .tc S2x128 32 [1] iota_S2x128_d1_w32) (iota .tc S2x128 32 [0] iota_S2x128_d0_w32))
        (k0_pay20 (k0_pay12 v77 k0_pay11)) (ix3 0 r j)
      = k0_pay12 (F := Ideal) v77 k0_pay11 (ix2 (fst r) j)
        + k0_pay13 (F := Ideal) v77 (iota .tc S2x128 32 [1] iota_S2x128_d1_w32) (iota .tc S2x128 32 [0] iota_S2x128_d0_w32) (ix2 (snd r) j) := by
    pointwise [k0_pay1, k0_pay20, fst, snd]
  rw [h, left_apply, right_apply, Fin.sum_univ_two, Fin.sum_univ_two, hj]
  fin_cases p <;> fin_cases q <;> simp

/-- What the body leaves in the first output's buffer. -/
theorem out_first (x0 : Vec Ideal S1x100x768 .f32) (x1 : Vec Ideal S1x1x100 .f32) (x2 : Vec Ideal S100x2 .i32) (x3 : Vec Ideal S768x768 .f32)
    (x4 : Vec Ideal S1x768 .f32) (x5 : Vec Ideal S768x4 .f32) (x6 : Vec Ideal S1x4 .f32) (x7 : Vec Ideal S2304x768 .f32) (x8 : Vec Ideal S1x768 .f32)
    (x9 : Vec Ideal S768x4 .f32) (x10 : Vec Ideal S1x4 .f32) (r : Fin 1600) (j : Fin 128) (hj : j.val < 4) :
    out0_11 x0 x1 x2 x3 x4 x5 x6 x7 x8 x9 x10 (ix3 0 r j)
      = logit (fun d => x0 (ix3 0 (at40 (scores x1) (fst r)) d)) (fun d => x0 (ix3 0 (at40 (scores x1) (snd r)) d)) (fun k d => x3 (ix2 k d))
          (fun d => x4 (ix2 0 d)) (fun d e => x5 (ix2 d e)) (fun e => x6 (ix2 0 e)) (fun k d => x7 (ix2 k d)) (fun d => x8 (ix2 0 d))
          (fun d e => x9 (ix2 d e)) (fun e => x10 (ix2 0 e)) ⟨j.val, hj⟩ := by
  have hx : ∀ (m : Fin 40) (d : Fin 768), k0_pay26 (F := Ideal) x0 x1 x2 x3 x4 x5 x6 x7 x8 x9 x10 (ix2 m d) = x0 (ix3 0 (at40 (scores x1) m) d) := by
    intro m d
    unfold k0_pay26 k0_pay25 k0_pay24 k0_pay23 k0_pay22 k0_pay21
    simp (disch := decide) only [View.ld_unit_lit']
    rw [rows_apply]
    pointwise [k0_pay2]
  rw [show out0_11 x0 x1 x2 x3 x4 x5 x6 x7 x8 x9 x10 = k0_pay19 (F := Ideal) (k0_pay26 x0 x1 x2 x3 x4 x5 x6 x7 x8 x9 x10) (k0_pay15 x9) (k0_pay16 x10)
      (k0_pay17 (k0_pay26 x0 x1 x2 x3 x4 x5 x6 x7 x8 x9 x10) x5 x3 x4) (k0_pay18 x6) (View.ld x7 r0_7) (View.ld x7 r0_8) (View.ld x7 r0_9) x8 from by
    unfold out0_11
    simp (disch := decide) only [View.canon_cons_unit_lit', View.ld_unit_lit']]
  rw [first_block _ x3 x4 x5 x6 x7 x8 x9 x10 r j hj]
  simp only [hx]

/-- What the body leaves in the second output's buffer. -/
theorem out_second (x0 : Vec Ideal S1x100x768 .f32) (x1 : Vec Ideal S1x1x100 .f32) (x2 : Vec Ideal S100x2 .i32) (x3 : Vec Ideal S768x768 .f32)
    (x4 : Vec Ideal S1x768 .f32) (x5 : Vec Ideal S768x4 .f32) (x6 : Vec Ideal S1x4 .f32) (x7 : Vec Ideal S2304x768 .f32) (x8 : Vec Ideal S1x768 .f32)
    (x9 : Vec Ideal S768x4 .f32) (x10 : Vec Ideal S1x4 .f32) (r : Fin 1600) (p q : Fin 2) (j : Fin 128) (hj : j.val = 2 * p.val + q.val) :
    out0_12 x0 x1 x2 x3 x4 x5 x6 x7 x8 x9 x10 (ix3 0 r j)
      = (((x2 (ix2 (at40 (scores x1) (if p = 0 then fst r else snd r)) q)).toInt : ℝ) : EReal) := by
  rw [show out0_12 x0 x1 x2 x3 x4 x5 x6 x7 x8 x9 x10 = k0_pay1 (F := Ideal)
      (k0_pay13 (k0_pay27 x0 x1 x2 x3 x4 x5 x6 x7 x8 x9 x10) (iota .tc S2x128 32 [1] iota_S2x128_d1_w32) (iota .tc S2x128 32 [0] iota_S2x128_d0_w32))
      (k0_pay20 (k0_pay12 (k0_pay27 x0 x1 x2 x3 x4 x5 x6 x7 x8 x9 x10) k0_pay11)) from by
    unfold out0_12
    simp (disch := decide) only [View.canon_cons_unit_lit']]
  rw [second_block _ r p q j hj]
  unfold k0_pay27 k0_pay25 k0_pay24 k0_pay23 k0_pay22 k0_pay21
  simp (disch := decide) only [View.ld_unit_lit']
  rw [ranges_apply]

end Cert.KernelIdeal.Block
-- ==== Proof.KernelHost.lean ====
/-
  What the kernel finds in its operands: the mean score of every row, computed on the host before the kernel, and the four biases as
  one-row matrices; and what the host's two results hold, from the kernel's two output arrays.
-/
module

public import proofs.«01_k».proof.Proof.Gen.KernelIdeal.Frame
public import proofs.«01_k».proof.Proof.Formula
public import proofs.«01_k».proof.Proof.Numbers
public import Idealize.ShloMosaic.Lib.Pointwise
public import Idealize.ShloMosaic.Lib.StableHlo.Run

@[expose] public section

set_option maxRecDepth 16384

noncomputable section

namespace Cert.KernelIdeal.HostValue

open Cert.KernelIdeal Cert.KernelIdeal.Gen Idealize.ShloMosaic Idealize.ShloMosaic.TcCoe Cert.Formula

variable (m : (ℓ : Loc nD τ sig) → Buf (Elt Ideal) ℓ)

/-- The host's first layer, before its rectifier. -/
def preact (x : FVec Ideal S4x100x768 .f32) (W1 : FVec Ideal S768x768 .f32) (b1 : FVec Ideal S768 .f32) : FVec Ideal S4x100x768 .f32 :=
  addf (Host.dotGeneral dot_S4x100x768_S768x768_S4x100x768_2_0_01_1_n_n none x W1)
    (broadcastInDim S4x100x768 ![0, 1, 2] bcast_S1x1x768_S4x100x768_0_1_2 (broadcastInDim S1x1x768 ![2] bcast_S768_S1x1x768_2 b1))

/-- The host's scores of every row in the four classes. -/
def scored (x : FVec Ideal S4x100x768 .f32) (W1 : FVec Ideal S768x768 .f32) (b1 : FVec Ideal S768 .f32) (W2 : FVec Ideal S768x4 .f32)
    (b2 : FVec Ideal S4 .f32) : FVec Ideal S4x100x4 .f32 :=
  addf (Host.dotGeneral dot_S4x100x768_S768x4_S4x100x4_2_0_01_1_n_n none
      (maximumf (preact x W1 b1) (broadcastInDim S4x100x768 ![] bcast_S_S4x100x768 (constant (F := Ideal) S_ .f32 0x00000000#32))) W2)
    (broadcastInDim S4x100x4 ![0, 1, 2] bcast_S1x1x4_S4x100x4_0_1_2 (broadcastInDim S1x1x4 ![2] bcast_S4_S1x1x4_2 b2))

/-- The host's mean scores, as the kernel's second operand. -/
def means (x : FVec Ideal S4x100x768 .f32) (W1 : FVec Ideal S768x768 .f32) (b1 : FVec Ideal S768 .f32) (W2 : FVec Ideal S768x4 .f32)
    (b2 : FVec Ideal S4 .f32) : FVec Ideal S4x1x100 .f32 :=
  broadcastInDim S4x1x100 ![0, 2] bcast_S4x100_S4x1x100_0_2
    (Host.divf (Host.reduceAdd (extractStridedSlice S4x100x3 ![0, 0, 1] (scored x W1 b1 W2 b2) slices_S4x100x4_S4x100x3_0_0_1)
        (constant (F := Ideal) S_ .f32 0x00000000#32) reducesTo_S4x100x3_S4x100_d2 h_S_)
      (broadcastInDim S4x100 ![] bcast_S_S4x100 (constant (F := Ideal) S_ .f32 0x40400000#32)))

/-- The scores' operand when the kernel is entered. -/
theorem V_means (c : Dev nD) : V m c main_v13
    = means (m ((c : Thread nD τ).loc main_arg0)) (m ((c : Thread nD τ).loc main_arg2)) (m ((c : Thread nD τ).loc main_arg3))
        (m ((c : Thread nD τ).loc main_arg4)) (m ((c : Thread nD τ).loc main_arg5)) := by
  show StableHlo.after (List.flatten [hostOps0, hostOps0_1, hostOps0_2]) _ (Proc.devRef .tc main_v13) = _
  simp only [List.flatten_cons, List.flatten_nil, List.append_nil, List.cons_append, List.nil_append]
  after_results
  rfl

/-- The mean score of row `k` of group `b`. -/
theorem means_apply (x : FVec Ideal S4x100x768 .f32) (W1 : FVec Ideal S768x768 .f32) (b1 : FVec Ideal S768 .f32) (W2 : FVec Ideal S768x4 .f32)
    (b2 : FVec Ideal S4 .f32) (b : Fin 4) (k : Fin 100) : means x W1 b1 W2 b2 (ix3 b 0 k)
      = mean (fun d => x (ix3 b k d)) (fun k d => W1 (ix2 k d)) (fun d => b1 (ix1 d)) (fun d e => W2 (ix2 d e)) (fun e => b2 (ix1 e)) := by
  pointwise [means, scored, preact, mean, single]

/-- The bias operand `main_v14` when the kernel is entered. -/
theorem V_b1 (c : Dev nD) (d : Fin 768) : V m c main_v14 (ix2 0 d) = m ((c : Thread nD τ).loc main_arg3) (ix1 d) := by
  have : V m c main_v14 = shapeCast S1x768 (m ((c : Thread nD τ).loc main_arg3)) shapeCasts_S768_S1x768 := by
    show StableHlo.after (List.flatten [hostOps0, hostOps0_1, hostOps0_2]) _ (Proc.devRef .tc main_v14) = _
    simp only [List.flatten_cons, List.flatten_nil, List.append_nil, List.cons_append, List.nil_append]
    after_results
    rfl
  rw [this]
  pointwise

/-- The bias operand `main_v15` when the kernel is entered. -/
theorem V_b2 (c : Dev nD) (d : Fin 4) : V m c main_v15 (ix2 0 d) = m ((c : Thread nD τ).loc main_arg5) (ix1 d) := by
  have : V m c main_v15 = shapeCast S1x4 (m ((c : Thread nD τ).loc main_arg5)) shapeCasts_S4_S1x4 := by
    show StableHlo.after (List.flatten [hostOps0, hostOps0_1, hostOps0_2]) _ (Proc.devRef .tc main_v15) = _
    simp only [List.flatten_cons, List.flatten_nil, List.append_nil, List.cons_append, List.nil_append]
    after_results
    rfl
  rw [this]
  pointwise

/-- The bias operand `main_v16` when the kernel is entered. -/
theorem V_c1 (c : Dev nD) (d : Fin 768) : V m c main_v16 (ix2 0 d) = m ((c : Thread nD τ).loc main_arg7) (ix1 d) := by
  have : V m c main_v16 = shapeCast S1x768 (m ((c : Thread nD τ).loc main_arg7)) shapeCasts_S768_S1x768 := by
    show StableHlo.after (List.flatten [hostOps0, hostOps0_1, hostOps0_2]) _ (Proc.devRef .tc main_v16) = _
    simp only [List.flatten_cons, List.flatten_nil, List.append_nil, List.cons_append, List.nil_append]
    after_results
    rfl
  rw [this]
  pointwise

/-- The bias operand `main_v17` when the kernel is entered. -/
theorem V_c2 (c : Dev nD) (d : Fin 4) : V m c main_v17 (ix2 0 d) = m ((c : Thread nD τ).loc main_arg9) (ix1 d) := by
  have : V m c main_v17 = shapeCast S1x4 (m ((c : Thread nD τ).loc main_arg9)) shapeCasts_S4_S1x4 := by
    show StableHlo.after (List.flatten [hostOps0, hostOps0_1, hostOps0_2]) _ (Proc.devRef .tc main_v17) = _
    simp only [List.flatten_cons, List.flatten_nil, List.append_nil, List.cons_append, List.nil_append]
    after_results
    rfl
  rw [this]
  pointwise

/-- The operations after the kernel, at the first result: the first four columns of the first output array. -/
theorem after_first (W : Valuation τ sig (Elt Ideal)) :
    StableHlo.after (List.flatten [hostOps1, hostOps1_1, hostOps1_2]) W (Proc.devRef .tc main_v19)
      = extractStridedSlice S4x1600x4 ![0, 0, 0] (W (Proc.devRef .tc main_v18_0) : FVec Ideal S4x1600x128 .f32) slices_S4x1600x128_S4x1600x4_0_0_0 := by
  simp only [List.flatten_cons, List.flatten_nil, List.append_nil, List.cons_append, List.nil_append]
  after_results

/-- The operations after the kernel, at the second result: the first four columns of the second output array, rounded, converted and
    laid out as two ranges of two numbers. -/
theorem after_second (W : Valuation τ sig (Elt Ideal)) :
    StableHlo.after (List.flatten [hostOps1, hostOps1_1, hostOps1_2]) W (Proc.devRef .tc main_v23)
      = shapeCast S4x1600x2x2 (fptosi 32 (Host.roundeven (F := Ideal) (φ := .f32) (extractStridedSlice S4x1600x4 ![0, 0, 0]
          (W (Proc.devRef .tc main_v18_1) : FVec Ideal S4x1600x128 .f32) slices_S4x1600x128_S4x1600x4_0_0_0))) shapeCasts_S4x1600x4_S4x1600x2x2 := by
  simp only [List.flatten_cons, List.flatten_nil, List.append_nil, List.cons_append, List.nil_append]
  after_results
  rfl

/-- The first result, from the kernel's first output array. -/
theorem tail_first (c : Dev nD) (b : Fin 4) (r : Fin 1600) (e : Fin 4) :
    Pipeline.afterTail₀ cfgs (dats m) 0 (V0 m) [hostOps1, hostOps1_1, hostOps1_2] c main_v19 (ix3 b r e)
      = (dats m 0 c).arrAt 11 cfg0.N (ix3 b r ⟨e.val, by omega⟩) := by
  have h := Pipeline.withArrays_arr spec0 launch0.win.arr_inj c (V0 m c) (fun w => (dats m 0 c).arrAt w cfg0.N) 11
  refine (congrFun (after_first _) _).trans ?_
  refine Eq.trans ?_ (congrFun h _)
  pointwise

/-- The second result, from the kernel's second output array, where that holds a word as a real. -/
theorem tail_second (c : Dev nD) (b : Fin 4) (r : Fin 1600) (p q : Fin 2) (w : BitVec 32)
    (hw : (dats m 0 c).arrAt 12 cfg0.N (ix3 b r ⟨p.val * 2 + q.val, by omega⟩) = ((w.toInt : ℝ) : EReal)) :
    Pipeline.afterTail₀ cfgs (dats m) 0 (V0 m) [hostOps1, hostOps1_1, hostOps1_2] c main_v23 (ix4 b r p q) = w := by
  have h := Pipeline.withArrays_arr spec0 launch0.win.arr_inj c (V0 m c) (fun w => (dats m 0 c).arrAt w cfg0.N) 12
  refine (congrFun (after_second _) _).trans ?_
  have h' := (congrFun h (ix3 b r ⟨p.val * 2 + q.val, by omega⟩)).trans hw
  generalize Pipeline.withArrays _ c (V0 m c) _ = W at h' ⊢
  pointwise
  exact (congrArg (fun v => FloatOps.fptosi (F := Ideal) (φ := .f32) 32 (Ideal.liftRound Ideal.roundHalfEven v)) h').trans (Numbers.word_back w)

end Cert.KernelIdeal.HostValue
-- ==== Proof.KernelRun.lean ====
/-
  What every run of the kernel's program leaves: the two results as the formulas of the argument arrays, the arguments unchanged. Point
  `t` of the kernel's grid reads group `t` of the rows and of the mean scores and every other operand whole, and writes block `t` of the
  two output arrays; the four blocks tile them.
-/
module

public import proofs.«01_k».proof.Proof.KernelBlock
public import proofs.«01_k».proof.Proof.KernelHost
public import Idealize.ShloMosaic.Lib.Pipeline.ValueKit

@[expose] public section

set_option maxRecDepth 16384

noncomputable section

namespace Cert.KernelIdeal.RunValue

open Cert.KernelIdeal Cert.KernelIdeal.Gen Idealize.ShloMosaic Idealize.ShloMosaic.TcCoe Idealize.SL.Sem Cert.Formula Cert.KernelIdeal.Block
  Cert.KernelIdeal.HostValue

variable (m : (ℓ : Loc nD τ sig) → Buf (Elt Ideal) ℓ) (ρ : Dev nD → PrngReg)

/-- Window 0 at point `t` is block `t` along the groups. -/
theorem idx0 : ∀ t : Fin cfg0.N, win0_0.index t = ![t.val, 0, 0] := (by decide +kernel : ∀ t : Fin grid0.N, _)
/-- Window 1 at point `t` is block `t` along the groups. -/
theorem idx1 : ∀ t : Fin cfg0.N, win0_1.index t = ![t.val, 0, 0] := (by decide +kernel : ∀ t : Fin grid0.N, _)
/-- Window 11 at point `t` is block `t` along the groups. -/
theorem idx11 : ∀ t : Fin cfg0.N, win0_11.index t = ![t.val, 0, 0] := (by decide +kernel : ∀ t : Fin grid0.N, _)
/-- Window 12 at point `t` is block `t` along the groups. -/
theorem idx12 : ∀ t : Fin cfg0.N, win0_12.index t = ![t.val, 0, 0] := (by decide +kernel : ∀ t : Fin grid0.N, _)
/-- Window 2 at point `t` is its whole operand. -/
theorem idx2 : ∀ t : Fin cfg0.N, win0_2.index t = ![0, 0] := (by decide +kernel : ∀ t : Fin grid0.N, _)
/-- Window 3 at point `t` is its whole operand. -/
theorem idx3 : ∀ t : Fin cfg0.N, win0_3.index t = ![0, 0] := (by decide +kernel : ∀ t : Fin grid0.N, _)
/-- Window 4 at point `t` is its whole operand. -/
theorem idx4 : ∀ t : Fin cfg0.N, win0_4.index t = ![0, 0] := (by decide +kernel : ∀ t : Fin grid0.N, _)
/-- Window 5 at point `t` is its whole operand. -/
theorem idx5 : ∀ t : Fin cfg0.N, win0_5.index t = ![0, 0] := (by decide +kernel : ∀ t : Fin grid0.N, _)
/-- Window 6 at point `t` is its whole operand. -/
theorem idx6 : ∀ t : Fin cfg0.N, win0_6.index t = ![0, 0] := (by decide +kernel : ∀ t : Fin grid0.N, _)
/-- Window 7 at point `t` is its whole operand. -/
theorem idx7 : ∀ t : Fin cfg0.N, win0_7.index t = ![0, 0] := (by decide +kernel : ∀ t : Fin grid0.N, _)
/-- Window 8 at point `t` is its whole operand. -/
theorem idx8 : ∀ t : Fin cfg0.N, win0_8.index t = ![0, 0] := (by decide +kernel : ∀ t : Fin grid0.N, _)
/-- Window 9 at point `t` is its whole operand. -/
theorem idx9 : ∀ t : Fin cfg0.N, win0_9.index t = ![0, 0] := (by decide +kernel : ∀ t : Fin grid0.N, _)
/-- Window 10 at point `t` is its whole operand. -/
theorem idx10 : ∀ t : Fin cfg0.N, win0_10.index t = ![0, 0] := (by decide +kernel : ∀ t : Fin grid0.N, _)

/-- A point of the grid, as a group number. -/
def grp (t : Fin cfg0.N) : Fin 4 := ⟨t.val, by have := t.isLt; have h : cfg0.N = 4 := N_0; omega⟩

/-- The rows point `t` reads are group `t`. -/
theorem read0 (c : Dev nD) (t : Fin cfg0.N) (k : Fin 100) (d : Fin 768) :
    iblk m c 0 t (ix3 0 k d) = m ((c : Thread nD τ).loc main_arg0) (ix3 (grp t) k d) := by
  rw [← V_main_arg0 m c]
  blk_ext [iblk, idx0 t]
  all_goals rfl

/-- The mean scores it reads are group `t`'s. -/
theorem read1 (c : Dev nD) (t : Fin cfg0.N) (k : Fin 100) :
    iblk m c 1 t (ix3 0 0 k) = mean (fun d => m ((c : Thread nD τ).loc main_arg0) (ix3 (grp t) k d))
      (fun k d => m ((c : Thread nD τ).loc main_arg2) (ix2 k d)) (fun d => m ((c : Thread nD τ).loc main_arg3) (ix1 d))
      (fun d e => m ((c : Thread nD τ).loc main_arg4) (ix2 d e)) (fun e => m ((c : Thread nD τ).loc main_arg5) (ix1 e)) := by
  refine Eq.trans ?_ ((congrFun (V_means m c) (ix3 (grp t) 0 k)).trans (means_apply _ _ _ _ _ _ _))
  blk_ext [iblk, idx1 t]
  all_goals rfl

/-- So the scores it ranks are group `t`'s mean scores. -/
theorem scores_read (c : Dev nD) (t : Fin cfg0.N) :
    scores (iblk m c 1 t) = fun k => mean (fun d => m ((c : Thread nD τ).loc main_arg0) (ix3 (grp t) k d))
      (fun k d => m ((c : Thread nD τ).loc main_arg2) (ix2 k d)) (fun d => m ((c : Thread nD τ).loc main_arg3) (ix1 d))
      (fun d e => m ((c : Thread nD τ).loc main_arg4) (ix2 d e)) (fun e => m ((c : Thread nD τ).loc main_arg5) (ix1 e)) :=
  funext fun k => read1 m c t k

/-- Operand 2 is read whole. -/
theorem read2 (c : Dev nD) (t : Fin cfg0.N) (i : Fin 100) (j : Fin 2) :
    iblk m c 2 t (ix2 i j) = m ((c : Thread nD τ).loc main_arg1) (ix2 i j) := by
  rw [← V_main_arg1 m c]
  blk_ext [iblk, idx2 t]

/-- Operand 3 is read whole. -/
theorem read3 (c : Dev nD) (t : Fin cfg0.N) (i : Fin 768) (j : Fin 768) :
    iblk m c 3 t (ix2 i j) = m ((c : Thread nD τ).loc main_arg2) (ix2 i j) := by
  rw [← V_main_arg2 m c]
  blk_ext [iblk, idx3 t]

/-- Operand 5 is read whole. -/
theorem read5 (c : Dev nD) (t : Fin cfg0.N) (i : Fin 768) (j : Fin 4) :
    iblk m c 5 t (ix2 i j) = m ((c : Thread nD τ).loc main_arg4) (ix2 i j) := by
  rw [← V_main_arg4 m c]
  blk_ext [iblk, idx5 t]

/-- Operand 7 is read whole. -/
theorem read7 (c : Dev nD) (t : Fin cfg0.N) (i : Fin 2304) (j : Fin 768) :
    iblk m c 7 t (ix2 i j) = m ((c : Thread nD τ).loc main_arg6) (ix2 i j) := by
  rw [← V_main_arg6 m c]
  blk_ext [iblk, idx7 t]

/-- Operand 9 is read whole. -/
theorem read9 (c : Dev nD) (t : Fin cfg0.N) (i : Fin 768) (j : Fin 4) :
    iblk m c 9 t (ix2 i j) = m ((c : Thread nD τ).loc main_arg8) (ix2 i j) := by
  rw [← V_main_arg8 m c]
  blk_ext [iblk, idx9 t]

/-- Operand 4 is read whole. -/
theorem read4 (c : Dev nD) (t : Fin cfg0.N) (j : Fin 768) :
    iblk m c 4 t (ix2 0 j) = m ((c : Thread nD τ).loc main_arg3) (ix1 j) := by
  rw [← V_b1 m c]
  blk_ext [iblk, idx4 t]

/-- Operand 6 is read whole. -/
theorem read6 (c : Dev nD) (t : Fin cfg0.N) (j : Fin 4) :
    iblk m c 6 t (ix2 0 j) = m ((c : Thread nD τ).loc main_arg5) (ix1 j) := by
  rw [← V_b2 m c]
  blk_ext [iblk, idx6 t]

/-- Operand 8 is read whole. -/
theorem read8 (c : Dev nD) (t : Fin cfg0.N) (j : Fin 768) :
    iblk m c 8 t (ix2 0 j) = m ((c : Thread nD τ).loc main_arg7) (ix1 j) := by
  rw [← V_c1 m c]
  blk_ext [iblk, idx8 t]

/-- Operand 10 is read whole. -/
theorem read10 (c : Dev nD) (t : Fin cfg0.N) (j : Fin 4) :
    iblk m c 10 t (ix2 0 j) = m ((c : Thread nD τ).loc main_arg9) (ix1 j) := by
  rw [← V_c2 m c]
  blk_ext [iblk, idx10 t]

/-- Block `t` of the first output, as the body leaves it. -/
def block11 (c : Dev nD) (t : Fin cfg0.N) : Vec Ideal S1x1600x128 .f32 :=
  out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)

/-- Block `t` of the second output, as the body leaves it. -/
def block12 (c : Dev nD) (t : Fin cfg0.N) : Vec Ideal S1x1600x128 .f32 :=
  out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t)

/-- The first result's entry in block `t`. -/
theorem block11_apply (c : Dev nD) (t : Fin cfg0.N) (r : Fin 1600) (j : Fin 128) (hj : j.val < 4) :
    block11 m c t (ix3 0 r j) = result1 (fun b k d => m ((c : Thread nD τ).loc main_arg0) (ix3 b k d)) (fun k d => m ((c : Thread nD τ).loc main_arg2) (ix2 k d))
        (fun d => m ((c : Thread nD τ).loc main_arg3) (ix1 d)) (fun d e => m ((c : Thread nD τ).loc main_arg4) (ix2 d e))
        (fun e => m ((c : Thread nD τ).loc main_arg5) (ix1 e)) (fun k d => m ((c : Thread nD τ).loc main_arg6) (ix2 k d))
        (fun d => m ((c : Thread nD τ).loc main_arg7) (ix1 d)) (fun d e => m ((c : Thread nD τ).loc main_arg8) (ix2 d e))
        (fun e => m ((c : Thread nD τ).loc main_arg9) (ix1 e)) (grp t) r ⟨j.val, hj⟩ := by
  rw [block11, out_first _ _ _ _ _ _ _ _ _ _ _ r j hj]
  simp only [scores_read, read0, read3, read4, read5, read6, read7, read8, read9, read10, result1, sel]

/-- The second result's entry in block `t`, as a real. -/
theorem block12_apply (c : Dev nD) (t : Fin cfg0.N) (r : Fin 1600) (p q : Fin 2) (j : Fin 128) (hj : j.val = 2 * p.val + q.val) :
    block12 m c t (ix3 0 r j) = (((result2 (fun b k d => m ((c : Thread nD τ).loc main_arg0) (ix3 b k d)) (fun k d => m ((c : Thread nD τ).loc main_arg2) (ix2 k d))
        (fun d => m ((c : Thread nD τ).loc main_arg3) (ix1 d)) (fun d e => m ((c : Thread nD τ).loc main_arg4) (ix2 d e))
        (fun e => m ((c : Thread nD τ).loc main_arg5) (ix1 e))
        (fun k q => m ((c : Thread nD τ).loc main_arg1) (ix2 k q)) (grp t) r p q).toInt : ℝ) : EReal) := by
  rw [block12, out_second _ _ _ _ _ _ _ _ _ _ _ r p q j hj]
  simp only [scores_read, read2, result2, sel]

/-- A group number, as a point of the grid. -/
def pt (b : Fin 4) : Fin cfg0.N := ⟨b.val, by have h : cfg0.N = 4 := N_0; omega⟩

/-- The point of group `b` handles group `b`. -/
theorem grp_pt (b : Fin 4) : grp (pt b) = b := rfl

/-- The first output array is its blocks, stacked. -/
theorem arr11 (c : Dev nD) : (dats m 0 c).arrAt 11 cfg0.N
    = (fun i : S4x1600x128.Idx => block11 m c (pt (i 0)) (ix3 0 (i 1) (i 2)) : S4x1600x128.Idx → EReal) := by
  refine (dats m 0 c).arrAt_eq_of_covers 11 _ (by decide +kernel) fun t hf y => ?_
  blk_simp
  rw [after0_11]
  show block11 m c t y = block11 m c _ _
  have h0 : pt ((win0_11.blk t).view.emb y 0) = t := by
    refine Fin.ext ?_
    show ((win0_11.blk t).view.emb y 0 : ℕ) = t.val
    have hy : (y 0 : ℕ) < 1 := (y 0).isLt
    blk_simp [idx11 t]
  rw [h0]
  refine congrArg (block11 m c t) ?_
  blk_ext [idx11 t]

/-- The second output array is its blocks, stacked. -/
theorem arr12 (c : Dev nD) : (dats m 0 c).arrAt 12 cfg0.N
    = (fun i : S4x1600x128.Idx => block12 m c (pt (i 0)) (ix3 0 (i 1) (i 2)) : S4x1600x128.Idx → EReal) := by
  refine (dats m 0 c).arrAt_eq_of_covers 12 _ (by decide +kernel) fun t hf y => ?_
  blk_simp
  rw [after0_12]
  show block12 m c t y = block12 m c _ _
  have h0 : pt ((win0_12.blk t).view.emb y 0) = t := by
    refine Fin.ext ?_
    show ((win0_12.blk t).view.emb y 0 : ℕ) = t.val
    have hy : (y 0 : ℕ) < 1 := (y 0).isLt
    blk_simp [idx12 t]
  rw [h0]
  refine congrArg (block12 m c t) ?_
  blk_ext [idx12 t]

/-- Every run ends with the two results at the formulas of the argument arrays. -/
theorem run : θ_run defs (onTc (τ := τ) (main (F := Ideal))) ⟨m, fun _ => 0, ρ⟩ fun r => ∀ c : Dev nD,
    (∀ (b : Fin 4) (r' : Fin 1600) (e : Fin 4), r.2.mem ((c : Thread nD τ).loc main_v19) (ix3 b r' e) = result1 (fun b k d => m ((c : Thread nD τ).loc main_arg0) (ix3 b k d)) (fun k d => m ((c : Thread nD τ).loc main_arg2) (ix2 k d))
        (fun d => m ((c : Thread nD τ).loc main_arg3) (ix1 d)) (fun d e => m ((c : Thread nD τ).loc main_arg4) (ix2 d e))
        (fun e => m ((c : Thread nD τ).loc main_arg5) (ix1 e)) (fun k d => m ((c : Thread nD τ).loc main_arg6) (ix2 k d))
        (fun d => m ((c : Thread nD τ).loc main_arg7) (ix1 d)) (fun d e => m ((c : Thread nD τ).loc main_arg8) (ix2 d e))
        (fun e => m ((c : Thread nD τ).loc main_arg9) (ix1 e)) b r' e)
    ∧ (∀ (b : Fin 4) (r' : Fin 1600) (p q : Fin 2), r.2.mem ((c : Thread nD τ).loc main_v23) (ix4 b r' p q) = result2 (fun b k d => m ((c : Thread nD τ).loc main_arg0) (ix3 b k d)) (fun k d => m ((c : Thread nD τ).loc main_arg2) (ix2 k d))
        (fun d => m ((c : Thread nD τ).loc main_arg3) (ix1 d)) (fun d e => m ((c : Thread nD τ).loc main_arg4) (ix2 d e))
        (fun e => m ((c : Thread nD τ).loc main_arg5) (ix1 e))
        (fun k q => m ((c : Thread nD τ).loc main_arg1) (ix2 k q)) b r' p q) := by
  refine (θ_run defs _ _).mono (fun r h c => ⟨fun b r' e => ?_, fun b r' p q => ?_⟩) (run_main m ρ)
  · refine (congrFun ((h c).2 main_v19 (Pipeline.mem_restRefs_of main_v19 (by decide) (by decide))) _).trans ?_
    rw [tail_first, arr11]
    exact block11_apply m c (pt b) r' ⟨e.val, by omega⟩ e.isLt
  · refine (congrFun ((h c).2 main_v23 (Pipeline.mem_restRefs_of main_v23 (by decide) (by decide))) _).trans ?_
    refine tail_second m c b r' p q _ ?_
    rw [arr12]
    exact block12_apply m c (pt b) r' p q ⟨p.val * 2 + q.val, by omega⟩ (by show p.val * 2 + q.val = _; omega)

/-- From any memory with zero counters, the kernel ends with its two results at the two tables of its arguments. -/
theorem run_tables (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19) = table1 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v23) = table2 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg1)) :=
  (θ_run defs _ _).mono (fun _ h c => ⟨funext fun i => (congrArg _ (eq_ix3 i)).trans ((h c).1 (i 0) (i 1) (i 2)),
    funext fun i => (congrArg _ (eq_ix4 i)).trans ((h c).2 (i 0) (i 1) (i 2) (i 3))⟩) (run m ρ)

end Cert.KernelIdeal.RunValue
-- ==== Proof.RowOps.lean ====
/-
  Three host operations on tables of words that hold natural numbers, at any extents: the running sum along the rows of a table, a table of
  ones added into zeros at pairs of indices, and the two composed: how many entries of a row are at most a number. Nothing here names a program.
-/
module

public import proofs.«01_k».proof.Proof.Selection
public import Idealize.ShloMosaic.Lib.Routing.Ops
public import Idealize.ShloMosaic.Lib.Routing.OpsPair
public import Idealize.ShloMosaic.Lib.Routing.OpsOne

@[expose] public section

namespace Cert.RowOps

open Idealize.ShloMosaic Idealize.ShloMosaic.ValueIdx Idealize.ShloMosaic.Routing

/-- A one-row window of `N` entries holds `N` entries. -/
theorem numel_row (N : Nat) : (shape2 1 N).numel = N := (Shape.numel_rank2 _).trans (Nat.one_mul N)

/-- Entry `n` of such a window is its entry `(0, n)`. -/
theorem symm_row {N : Nat} (n : Fin (shape2 1 N).numel) : (shape2 1 N).rowMajor.symm n = ix2 (0 : Fin 1) (n.cast (numel_row N)) := by
  have hn : n.val < N := lt_of_lt_of_eq n.isLt (numel_row N)
  refine (symm22 n (by rw [Nat.div_eq_of_lt hn]; exact Nat.one_pos) (by rw [Nat.mod_eq_of_lt hn]; exact hn)).trans
    (congrArg₂ ix2 (Subsingleton.elim _ _) (Fin.ext (Nat.mod_eq_of_lt hn)))

/-- The running sum along the rows of a table: where entry `(r, i)` holds `f r i`, entry `(r, j)` of the result holds `f r 0 + … + f r j`. -/
theorem running_sum {R C Cm1 : Nat} (hC : Cm1 + 1 = C) (x : IVec (shape2 R C) 32) (f : Nat → Nat → Nat)
    (hx : ∀ (r : Fin R) (i : Fin C), x (ix2 r i) = BitVec.ofNat 32 (f r.val i.val)) (init : IVec shape0 32) (hinit : init ix0 = 0#32)
    (h : (shape2 R C).ReduceWindows (![1, C] : Fin 2 → Nat) ![1, 1] ![0, Cm1] ![0, 0] (shape2 R C)) (hu : 0 < shape0.numel) (r : Fin R) (j : Fin C) :
    Host.reduceWindow IntOp.addi ![1, C] ![1, 1] ![0, Cm1] ![0, 0] x init h hu (ix2 r j)
      = BitVec.ofNat 32 ((List.range (j.val + 1)).map (f r.val)).sum := by
  subst hC
  have hz : init (Shape.Idx.first hu) = BitVec.ofNat 32 0 := (congrArg init (eq_ix0 _)).trans hinit
  have hj := j.isLt
  have hr := r.isLt
  unfold Host.reduceWindow
  refine (foldl_addi_ofNat _ _ (fun n => if Cm1 ≤ j.val + n.val then f r.val (j.val + n.val - Cm1) else 0) (fun n _ => ?_) _ 0 hz).trans ?_
  · have h0 : ((shape2 1 (Cm1 + 1)).rowMajor.symm n 0).val = 0 := by rw [symm_row]; rfl
    have h1 : ((shape2 1 (Cm1 + 1)).rowMajor.symm n 1).val = n.val := by rw [symm_row]; rfl
    have hn : n.val < Cm1 + 1 := (n.cast (numel_row _)).isLt
    dsimp only
    split
    · next hin =>
      have hc := hin 1
      change Cm1 ≤ j.val * 1 + ((shape2 1 (Cm1 + 1)).rowMajor.symm n 1).val
        ∧ j.val * 1 + ((shape2 1 (Cm1 + 1)).rowMajor.symm n 1).val - Cm1 < Cm1 + 1 at hc
      rw [h1] at hc
      rw [if_pos (by omega)]
      refine (congrArg x (funext fun a => Fin.ext ?_)).trans (hx r ⟨j.val + n.val - Cm1, by omega⟩)
      match a with
      | ⟨0, _⟩ =>
        show r.val * 1 + ((shape2 1 (Cm1 + 1)).rowMajor.symm n 0).val - 0 = r.val
        rw [h0]
        omega
      | ⟨1, _⟩ =>
        show j.val * 1 + ((shape2 1 (Cm1 + 1)).rowMajor.symm n 1).val - Cm1 = j.val + n.val - Cm1
        rw [h1, Nat.mul_one]
    · next hin =>
      rw [if_neg fun hle => hin fun a => by
        match a with
        | ⟨0, _⟩ =>
          show 0 ≤ r.val * 1 + ((shape2 1 (Cm1 + 1)).rowMajor.symm n 0).val ∧ r.val * 1 + ((shape2 1 (Cm1 + 1)).rowMajor.symm n 0).val - 0 < R
          rw [h0]
          omega
        | ⟨1, _⟩ =>
          show Cm1 ≤ j.val * 1 + ((shape2 1 (Cm1 + 1)).rowMajor.symm n 1).val
            ∧ j.val * 1 + ((shape2 1 (Cm1 + 1)).rowMajor.symm n 1).val - Cm1 < Cm1 + 1
          rw [h1]
          omega]
      exact hz
  · rw [Nat.zero_add, map_finRange_val _ (fun w => if Cm1 ≤ j.val + w then f r.val (j.val + w - Cm1) else 0)]
    exact congrArg (BitVec.ofNat 32) ((congrArg (fun M => ((List.range M).map fun w => if Cm1 ≤ j.val + w then f r.val (j.val + w - Cm1) else 0).sum)
      (numel_row (Cm1 + 1))).trans (sum_window (f r.val) Cm1 j.val (by omega)))

/-- A left fold that adds one at the elements with `p` adds their number. -/
theorem foldl_add_one {ι : Type} (p : ι → Prop) [DecidablePred p] (u : ι → BitVec 32) (hu : ∀ i, u i = 1#32) (l : List ι) (z : Nat) :
    l.foldl (fun a n => if p n then IntOp.addi a (u n) else a) (BitVec.ofNat 32 z) = BitVec.ofNat 32 (z + l.countP fun n => decide (p n)) := by
  induction l generalizing z with
  | nil => rfl
  | cons n l ih =>
    rw [List.foldl_cons, List.countP_cons]
    by_cases hp : p n
    · rw [if_pos hp, hu, show IntOp.addi (BitVec.ofNat 32 z) 1#32 = BitVec.ofNat 32 (z + 1) from (BitVec.ofNat_add z 1).symm, ih, if_pos (decide_eq_true hp)]
      congr 1
      omega
    · rw [if_neg hp, ih, if_neg (by simpa using hp), Nat.add_zero]

/-- The elements with `p` of the list of all numbers below `n` are as many as those of the set. -/
theorem countP_finRange_card {n : Nat} (p : Fin n → Prop) [DecidablePred p] :
    (List.finRange n).countP (fun i => decide (p i)) = (Finset.univ.filter p).card := by
  rw [List.countP_eq_length_filter]
  rfl

/-- A table of ones added into a table of zeros at pairs of indices, the first of update `(a, b)` being `a` and the second `g a b`: entry `(r, c)`
    of the result is the number of the `b` with `g r b = c`. Indices outside the table add nothing. -/
theorem scatter_ones {R C B : Nat} (d : ScatterDims (shape2 R C) (shape3 R B 2) (shape2 R B)) (hiw : d.insertedWindowDims = [0, 1])
    (hsd : d.scatterDimsToOperandDims = [0, 1]) (hivd : d.indexVectorDim = 2) (z : IVec (shape2 R C) 32) (hz : ∀ i, z i = 0#32)
    (idx : IVec (shape3 R B 2) 32) (upd : IVec (shape2 R B) 32) (hupd : ∀ i, upd i = 1#32) (g : Fin R → Fin B → Nat)
    (hg0 : ∀ a b, idx (ix3 a b 0) = BitVec.ofNat 32 a.val) (hg1 : ∀ a b, idx (ix3 a b 1) = BitVec.ofNat 32 (g a b)) (hR : R < 2 ^ 31)
    (hg : ∀ a b, g a b < 2 ^ 31) (r : Fin R) (c : Fin C) :
    Host.scatter d IntOp.addi z idx upd (ix2 r c) = BitVec.ofNat 32 (Finset.univ.filter fun b : Fin B => g r b = c.val).card := by
  have hl : ∀ a b, d.resultIdx? (ix2 a b) idx = some (ix2 r c) ↔ a = r ∧ g a b = c.val := fun a b => by
    rw [scatter_lands2 d hiw hsd hivd, hg0, hg1, StableHlo.Predicate.toInt_ofNat_small _ (lt_trans a.isLt hR),
      StableHlo.Predicate.toInt_ofNat_small _ (hg a b), Fin.ext_iff]
    omega
  rw [scatter_at, hz, show (0#32 : BitVec 32) = BitVec.ofNat 32 0 from rfl,
    foldl_add_one _ (fun n => upd ((shape2 R B).rowMajor.symm n)) (fun n => hupd _), Nat.zero_add, countP_finRange_card]
  refine congrArg (BitVec.ofNat 32) (Eq.symm (Finset.card_bij (fun b _ => (shape2 R B).rowMajor (ix2 r b)) (fun b hb => ?_) (fun a _ b _ hab => ?_)
    fun n hn => ?_))
  · refine Finset.mem_filter.2 ⟨Finset.mem_univ _, ?_⟩
    rw [Equiv.symm_apply_apply]
    exact (hl r b).2 ⟨rfl, (Finset.mem_filter.1 hb).2⟩
  · exact Fin.ext (congrArg Fin.val (congrFun ((shape2 R B).rowMajor.injective hab) 1))
  · have hn := (Finset.mem_filter.1 hn).2
    obtain ⟨k, rfl⟩ := (shape2 R B).rowMajor.surjective n
    rw [Equiv.symm_apply_apply] at hn
    obtain ⟨a, b, rfl⟩ : ∃ a b, k = ix2 a b := ⟨k 0, k 1, eq_ix2 k⟩
    obtain ⟨rfl, hb⟩ := (hl a b).1 hn
    exact ⟨b, Finset.mem_filter.2 ⟨Finset.mem_univ _, hb⟩, rfl⟩

/-- The entries equal to `0`, to `1`, … to `m` are together the entries that are at most `m`. -/
theorem sum_card_eq {B : Nat} (g : Fin B → Nat) (m : Nat) :
    ((List.range (m + 1)).map fun i => (Finset.univ.filter fun b : Fin B => g b = i).card).sum = (Finset.univ.filter fun b : Fin B => g b ≤ m).card := by
  induction m with
  | zero => simp
  | succ m ih =>
    rw [List.range_succ, List.map_append, List.sum_append, ih, List.map_singleton, List.sum_singleton, ← Finset.card_union_of_disjoint]
    · congr 1
      ext b
      simp only [Finset.mem_union, Finset.mem_filter, Finset.mem_univ, true_and]
      omega
    · rw [Finset.disjoint_left]
      intro b hb hb'
      have := (Finset.mem_filter.1 hb).2
      have := (Finset.mem_filter.1 hb').2
      omega

/-- The marks at positions `0` to `j`, added up, are their number. -/
theorem sum_marks (p : Nat → Prop) [DecidablePred p] (j : Nat) : ((List.range j).map fun i => if p i then 1 else 0).sum = Nat.count p j := by
  induction j with
  | zero => rfl
  | succ j ih => rw [List.range_succ, List.map_append, List.sum_append, ih, List.map_singleton, List.sum_singleton, Nat.count_succ]

end Cert.RowOps
-- ==== Proof.RefPick.lean ====
/-
  The selection as the reference makes it: the mean score of every row, the stable sort by descending mean, the marks of the positions that
  hold one of the first 40 rows, their running count, the histogram of the counts and its running sum: entry `(b, m)` is the `m`-th marked position of group `b`.
-/
module

public import proofs.«01_k».proof.Proof.Gen.ReferenceIdeal.Run
public import proofs.«01_k».proof.Proof.Formula
public import proofs.«01_k».proof.Proof.Numbers
public import proofs.«01_k».proof.Proof.RowOps
public import Idealize.ShloMosaic.Lib.Routing.Words
public import Idealize.ShloMosaic.Lib.Pointwise

@[expose] public section

set_option maxRecDepth 16384

noncomputable section

namespace Cert.ReferenceIdeal.Picked

open Cert.ReferenceIdeal Cert.ReferenceIdeal.Gen Cert.ReferenceIdeal.Value Idealize.ShloMosaic Cert.Formula Cert.Selection

variable (V0 : Valuation τ sig (Elt Ideal))

/-- The mean score of row `k` of group `b`. -/
def score (b : Fin 4) (k : Fin 100) : EReal :=
  mean (fun d => V0 (Proc.devRef .tc main_arg0) (ix3 b k d)) (fun k d => V0 (Proc.devRef .tc main_arg2) (ix2 k d))
    (fun d => V0 (Proc.devRef .tc main_arg3) (ix1 d)) (fun d e => V0 (Proc.devRef .tc main_arg4) (ix2 d e)) (fun e => V0 (Proc.devRef .tc main_arg5) (ix1 e))

/-- The sort's keys are the means, negated. -/
theorem keys (b : Fin 4) (k : Fin 100) : res_main_v13 V0 (ix2 b k) = - score V0 b k := by
  pointwise [res_main_v13, score, mean, single]

/-- The sort's comparator at the extended reals is the order of the first components. -/
theorem comparator_eq (l r : EReal × BitVec 32) :
    (comparator_f32_i32_d1 (F := Ideal) l r == 1#1) = decide (l.1 < r.1) := by
  have hz : Ideal.ofBits .f32 0x00000000#32 = 0 := by simp [Ideal.ofBits, Ideal.ieee]
  have hs : ∀ (x : EReal) (y : EReal), Scalar.select (FloatOps.cmpf (F := Ideal) (φ := .f32) .une x x) y
      (Scalar.select (FloatOps.cmpf (F := Ideal) (φ := .f32) .oeq x (FloatOps.ofBits (F := Ideal) .f32 0x00000000#32)) (FloatOps.ofBits (F := Ideal) .f32 0x00000000#32) x) = x := fun x y => by
    show Scalar.select (BitVec.ofBool (decide (x ≠ x))) y (Scalar.select (BitVec.ofBool (decide (x = _))) _ x) = x
    rw [Numbers.select_ofBool, Numbers.select_ofBool, if_neg (by simp), show FloatOps.ofBits (F := Ideal) .f32 0x00000000#32 = 0 from hz]
    split
    · next h => exact h.symm
    · rfl
  show (BitVec.ofBool (decide (_ < _)) == 1#1) = _
  rw [hs, hs]
  by_cases h : l.1 < r.1 <;> simp [h]

/-- The second result of a sort of two tables along their rows, read at an entry. -/
theorem sorted_second {α β : Type} (cmp : α × β → α × β → BitVec 1) (x : S4x100.Idx → α) (y : S4x100.Idx → β) (b : Fin 4) (j : Fin 100) :
    (Host.sort2 S4x100 1 cmp x y).2 (ix2 b j)
      = y (ix2 b (sortedFrom (fun k k' : Fin 100 => cmp (x (ix2 b k), y (ix2 b k)) (x (ix2 b k'), y (ix2 b k')) == 1#1) j)) := by
  have ha : ∀ k : Fin 100, (ix2 b j : S4x100.Idx).along (1 : Fin 2) k = ix2 b k := fun k => by
    funext a
    match a with
    | ⟨0, _⟩ => rfl
    | ⟨1, _⟩ => rfl
  show y ((ix2 b j : S4x100.Idx).along (1 : Fin 2) (sortedFrom (fun k k' : Fin 100 =>
    cmp (x ((ix2 b j : S4x100.Idx).along (1 : Fin 2) k), y ((ix2 b j : S4x100.Idx).along (1 : Fin 2) k))
      (x ((ix2 b j : S4x100.Idx).along (1 : Fin 2) k'), y ((ix2 b j : S4x100.Idx).along (1 : Fin 2) k')) == 1#1) j)) = _
  simp only [ha]
  exact congrArg y (ha _)

/-- What the sort carries along: the row's number. -/
theorem carried (b : Fin 4) (k : Fin 100) : res_main_call1_v0 V0 (ix2 b k) = BitVec.ofNat 32 k.val := rfl

/-- Row `j` of the sorted order of group `b`, as the sort carries it. -/
theorem order (b : Fin 4) (j : Fin 100) :
    (Host.sort2 S4x100 1 comparator_f32_i32_d1 (res_main_v13 V0) (res_main_call1_v0 V0)).2 (ix2 b j)
      = BitVec.ofNat 32 (sortedFrom (fun x y => decide (score V0 b y < score V0 b x)) j).val := by
  have hr : (fun k k' : Fin 100 => comparator_f32_i32_d1 (F := Ideal) (res_main_v13 V0 (ix2 b k), res_main_call1_v0 V0 (ix2 b k))
        (res_main_v13 V0 (ix2 b k'), res_main_call1_v0 V0 (ix2 b k')) == 1#1)
      = fun x y => decide (score V0 b y < score V0 b x) := by
    funext k k'
    rw [comparator_eq, keys, keys]
    exact decide_eq_decide.2 EReal.neg_lt_neg_iff
  rw [sorted_second, hr, carried]

/-- A comparison of converted positions with 40, read at an entry. -/
theorem mark_read (x : IVec S4x100 32) (b : Fin 4) (j : Fin 100) :
    cmpf .olt (sitofp .f32 x : FVec Ideal S4x100 .f32) (broadcastInDim S4x100 ![] bcast_S_S4x100 (constant (F := Ideal) S_ .f32 0x42200000#32)) (ix2 b j)
      = FloatOps.cmpf (F := Ideal) (φ := .f32) .olt (FloatOps.sitofp (F := Ideal) FTy.f32 (x (ix2 b j))) (Ideal.ofBits .f32 0x42200000#32) := by
  rfl

/-- The mark of position `j` of group `b`. -/
theorem marks (b : Fin 4) (j : Fin 100) : res_main_v17 V0 (ix2 b j) = BitVec.ofBool (decide (Marked (score V0 b) 40 j.val)) := by
  refine (mark_read _ b j).trans ?_
  have hlt := (sortedFrom (fun x y => decide (score V0 b y < score V0 b x)) j).isLt
  rw [order, Numbers.sitofp_ofNat _ (by omega), Numbers.ofBits_40]
  show BitVec.ofBool (decide ((_ : EReal) < _)) = _
  refine congrArg BitVec.ofBool (decide_eq_decide.2 ?_)
  rw [EReal.natCast_lt_iff]
  exact sortedFrom_lt_iff _ _ _

/-- The marks up to and including position `j` of group `b`, counted. -/
theorem counts (b : Fin 4) (j : Fin 100) : res_main_v18 V0 (ix2 b j) = BitVec.ofNat 32 (Selection.count (score V0 b) 40 j.val) := by
  have hx : ∀ (r : Fin 4) (i : Fin 100), extui 32 (res_main_v17 V0) natLt_1_32 (ix2 r i)
      = BitVec.ofNat 32 (if hr : r.val < 4 then (if Marked (score V0 ⟨r.val, hr⟩) 40 i.val then 1 else 0) else 0) := fun r i => by
    show (res_main_v17 V0 (ix2 r i)).setWidth 32 = _
    rw [marks, Routing.setWidth_ofBool, dif_pos r.isLt]
  refine (RowOps.running_sum (R := 4) (C := 100) (Cm1 := 99) rfl _ (fun r i => if hr : r < 4 then (if Marked (score V0 ⟨r, hr⟩) 40 i then 1 else 0) else 0) hx _ rfl _ _ b j).trans ?_
  rw [count_eq _ _ j.isLt, ← RowOps.sum_marks]
  exact congrArg (fun l : List Nat => BitVec.ofNat 32 l.sum) (List.map_congr_left fun i _ => dif_pos b.isLt)

/-- The number of marks of group `b` is 40. -/
theorem total (b : Fin 4) : Host.reduce IntOp.addi (extui 32 (res_main_v17 V0) natLt_1_32) (constantI S_ 32 0#32) reducesTo_S4x100_S4_d1 h_S_ (ix1 b)
    = BitVec.ofNat 32 40 := by
  refine (Routing.reduce_count (n := 4) (m := 100) (by norm_num) (res_main_v17 V0) _ _ _ b (Marked (score V0 b) 40) fun q => ?_).trans
    (congrArg (BitVec.ofNat 32) (count_all (score V0 b) 40 (by norm_num)))
  show res_main_v17 V0 (ix2 b q) = 1#1 ↔ _
  rw [marks, WordCmp.ofBool_decide_eq_one_iff]

/-- The index words of the histogram: group `b`, and the count at position `j`. -/
theorem places (b : Fin 4) (j : Fin 100) : Selection.count (score V0 b) 40 j.val < 2 ^ 31 := by
  have := count_le (score V0 b) 40 j.val
  omega

/-- Wrapping a word that is not negative leaves it. -/
theorem wrap_word (n k : Nat) (h : n < 2 ^ 31) :
    Scalar.select (IntOp.cmpi .slt (BitVec.ofNat 32 n) 0#32) (IntOp.addi (BitVec.ofNat 32 n) (BitVec.ofNat 32 k)) (BitVec.ofNat 32 n) = BitVec.ofNat 32 n :=
  Routing.wrap_of_lt _ _ (by rw [BitVec.toNat_ofNat, Nat.mod_eq_of_lt (by omega)]; exact h)

/-- The pairs of index words of a table, from the two tables of words. -/
def pairs (x : IVec S4x1 32) (y : IVec S4x100 32) : IVec S4x100x2 32 :=
  concatenate S4x100x2 2 [⟨S4x100x1, (broadcastInDim S4x100x1 ![0, 1] bcast_S4x100_S4x100x1_0_1 (broadcastInDim S4x100 ![0, 1] bcast_S4x1_S4x100_0_1 (select (cmpi .slt x (broadcastInDim S4x1 ![] bcast_S_S4x1 (constantI S_ 32 0#32))) (addi x (broadcastInDim S4x1 ![] bcast_S_S4x1 (constantI S_ 32 4#32))) x)))⟩, ⟨S4x100x1, (broadcastInDim S4x100x1 ![0, 1] bcast_S4x100_S4x100x1_0_1 (select (cmpi .slt y (broadcastInDim S4x100 ![] bcast_S_S4x100 (constantI S_ 32 0#32))) (addi y (broadcastInDim S4x100 ![] bcast_S_S4x100 (constantI S_ 32 40#32))) y))⟩] concatenates_S4x100x1_S4x100x1_S4x100x2_d2

/-- The first word of a pair. -/
theorem index_first (x : IVec S4x1 32) (y : IVec S4x100 32) (a : Fin 4) (j : Fin 100) : pairs x y (ix3 a j 0)
    = Scalar.select (IntOp.cmpi .slt (x (ix2 a 0)) 0#32) (IntOp.addi (x (ix2 a 0)) 4#32) (x (ix2 a 0)) := by
  pointwise [pairs]

/-- The second word of a pair. -/
theorem index_second (x : IVec S4x1 32) (y : IVec S4x100 32) (a : Fin 4) (j : Fin 100) : pairs x y (ix3 a j 1)
    = Scalar.select (IntOp.cmpi .slt (y (ix2 a j)) 0#32) (IntOp.addi (y (ix2 a j)) 40#32) (y (ix2 a j)) := by
  pointwise [pairs]

/-- The word of group `a`. -/
theorem group_word (a : Fin 4) : res_main_v25 V0 (ix2 a 0) = BitVec.ofNat 32 a.val := by
  fin_cases a <;> rfl

/-- The running sum of the histogram of the counts: the `m`-th marked position of group `b`. -/
theorem picks (b : Fin 4) (m : Fin 40) : res_main_v42 V0 (ix2 b m) = BitVec.ofNat 32 (pick (score V0 b) 40 m.val) := by
  let f : Nat → Nat → Nat := fun r i => if hr : r < 4 then (Finset.univ.filter fun j : Fin 100 => Selection.count (score V0 ⟨r, hr⟩) 40 j.val = i).card else 0
  refine (RowOps.running_sum (R := 4) (C := 40) (Cm1 := 39) rfl _ f (fun r i => ?_) _ rfl _ _ b m).trans ?_
  · refine (RowOps.scatter_ones (R := 4) (C := 40) (B := 100) scatter_S4x40_S4x100x2_S4x100_n_01_01_2 rfl rfl rfl _ (fun _ => rfl) _ _ (fun _ => rfl)
      (fun a j => Selection.count (score V0 a) 40 j.val) (fun a j => ?_) (fun a j => ?_) (by norm_num) (fun a j => places V0 a j) r i).trans
      (congrArg (BitVec.ofNat 32) (by show _ = dite _ _ _; rw [dif_pos r.isLt]))
    · exact (index_first _ _ a j).trans (by rw [group_word]; exact wrap_word _ _ (by omega))
    · exact (index_second _ _ a j).trans (by rw [counts]; exact wrap_word _ _ (places V0 a j))
  · rw [← show (Finset.univ.filter fun j : Fin 100 => Selection.count (score V0 b) 40 j.val ≤ m.val).card = pick (score V0 b) 40 m.val from rfl, ← RowOps.sum_card_eq]
    exact congrArg (fun l : List Nat => BitVec.ofNat 32 l.sum) (List.map_congr_left fun i _ => dif_pos b.isLt)

/-- The rows past the number of marks are filled in with zero, read at an entry. -/
theorem row_read (x : IVec S4 32) (y : IVec S4x40 32) (b : Fin 4) (m : Fin 40) :
    select (cmpi .sge (broadcastInDim S4x40 ![0, 1] bcast_S1x40_S4x40_0_1 (broadcastInDim S1x40 ![1] bcast_S40_S1x40_1 (iotaInDim S40 32 0))) (broadcastInDim S4x40 ![0, 1] bcast_S4x1_S4x40_0_1 (broadcastInDim S4x1 ![0] bcast_S4_S4x1_0 x))) (broadcastInDim S4x40 ![] bcast_S_S4x40 (id (constantI S_ 32 0#32))) y (ix2 b m)
      = Scalar.select (IntOp.cmpi .sge (BitVec.ofNat 32 m.val) (x (ix1 b))) 0#32 (y (ix2 b m)) := by
  pointwise
  rfl

/-- The row numbers by which the reference reads: none is filled in, and division by one and the remainder by 100 change nothing. -/
theorem rows (b : Fin 4) (m : Fin 40) : res_main_v53 V0 (ix2 b m) = BitVec.ofNat 32 (at40 (score V0 b) m).val := by
  have hp := pick_lt (score V0 b) 40 (n := 100) (by omega) m.isLt
  have hm := m.isLt
  have e : res_main_v53 V0 (ix2 b m) = Scalar.select (IntOp.cmpi .sge (BitVec.ofNat 32 m.val)
      (Host.reduce IntOp.addi (extui 32 (res_main_v17 V0) natLt_1_32) (constantI S_ 32 0#32) reducesTo_S4x100_S4_d1 h_S_ (ix1 b))) 0#32
      (Routing.pyRem bcast_S_S4x40 (Routing.pyDiv bcast_S_S4x40 (res_main_v42 V0) (constantI S_ 32 1#32)) (constantI S_ 32 100#32) (ix2 b m)) := by
    exact row_read _ _ b m
  rw [e, total, WordCmp.cmpi_sge_ofNat (w := 32) (by omega) (by omega), Numbers.select_ofBool, if_neg (by omega),
    Routing.pyRem_ap (b := 100) _ _ _ _ (Routing.pyDiv_ap (b := 1) _ _ _ _ (picks V0 b m) rfl (by omega) (by omega) (by omega)) rfl (by rw [Nat.div_one]; omega) (by omega) (by omega),
    Nat.div_one, Nat.mod_eq_of_lt hp]
  rfl

end Cert.ReferenceIdeal.Picked
-- ==== Proof.RefRows.lean ====
/-
  What the reference reads by the row numbers it selected: the selected rows of the first operand, and their ranges. Every row number lies in its table, so
  that none is wrapped and no row is filled in.
-/
module

public import proofs.«01_k».proof.Proof.RefPick

@[expose] public section

set_option maxRecDepth 16384

noncomputable section

namespace Cert.ReferenceIdeal.Picked

open Cert.ReferenceIdeal Cert.ReferenceIdeal.Gen Cert.ReferenceIdeal.Value Idealize.ShloMosaic Cert.Formula Cert.Selection

variable (V0 : Valuation τ sig (Elt Ideal))

/-- A gather of rows, group by group, read at an entry whose row number lies in the table. -/
theorem gather_rows {α : Type} (x : S4x100x768.Idx → α) (idx : IVec S4x40x1 32) (b : Fin 4) (m : Fin 40) (d : Fin 768) (k : Fin 100)
    (hk : idx (ix3 b m 0) = BitVec.ofNat 32 k.val) :
    Host.gather gather_S4x100x768_S4x40x1_S4x40x768_2_1_0_0_1_2_11768 x idx (ix3 b m d) = x (ix3 b k d) := by
  have hk' : min (idx (ix3 b m 0)).toInt.toNat 99 = k.val := by
    have := k.isLt
    rw [hk, StableHlo.Predicate.toInt_ofNat_small _ (by omega)]
    omega
  refine congrArg x (funext fun a => Fin.ext ?_)
  have hi : gather_S4x100x768_S4x40x1_S4x40x768_2_1_0_0_1_2_11768.siIdx (ix3 b m d) ⟨0, by decide⟩ = ix3 b m 0 := by
    funext a
    match a with
    | ⟨0, _⟩ => rfl
    | ⟨1, _⟩ => rfl
    | ⟨2, _⟩ => rfl
  match a with
  | ⟨0, _⟩ =>
    show 0 + b.val + 0 = b.val
    omega
  | ⟨1, _⟩ =>
    show min (idx (gather_S4x100x768_S4x40x1_S4x40x768_2_1_0_0_1_2_11768.siIdx (ix3 b m d) ⟨0, by decide⟩)).toInt.toNat 99 + 0 + 0 = k.val
    simp only [hi, hk', Nat.add_zero]
  | ⟨2, _⟩ =>
    show 0 + 0 + d.val = d.val
    omega

/-- A gather of pairs, read at an entry whose row number lies in the table. -/
theorem gather_pairs {α : Type} (x : S100x2.Idx → α) (idx : IVec S4x40x1 32) (b : Fin 4) (m : Fin 40) (q : Fin 2) (k : Fin 100)
    (hk : idx (ix3 b m 0) = BitVec.ofNat 32 k.val) :
    Host.gather gather_S100x2_S4x40x1_S4x40x2_2_0_n_n_0_2_12 x idx (ix3 b m q) = x (ix2 k q) := by
  have hk' : min (idx (ix3 b m 0)).toInt.toNat 99 = k.val := by
    have := k.isLt
    rw [hk, StableHlo.Predicate.toInt_ofNat_small _ (by omega)]
    omega
  refine congrArg x (funext fun a => Fin.ext ?_)
  have hi : gather_S100x2_S4x40x1_S4x40x2_2_0_n_n_0_2_12.siIdx (ix3 b m q) ⟨0, by decide⟩ = ix3 b m 0 := by
    funext a
    match a with
    | ⟨0, _⟩ => rfl
    | ⟨1, _⟩ => rfl
    | ⟨2, _⟩ => rfl
  match a with
  | ⟨0, _⟩ =>
    show min (idx (gather_S100x2_S4x40x1_S4x40x2_2_0_n_n_0_2_12.siIdx (ix3 b m q) ⟨0, by decide⟩)).toInt.toNat 99 + 0 + 0 = k.val
    simp only [hi, hk', Nat.add_zero]
  | ⟨1, _⟩ =>
    show 0 + 0 + q.val = q.val
    omega

/-- The row number by which the rows are read. -/
theorem row_word (b : Fin 4) (m : Fin 40) : res_main_call7_v4 V0 (ix3 b m 0) = BitVec.ofNat 32 (at40 (score V0 b) m).val := by
  have e : res_main_call7_v4 V0 (ix3 b m 0) = Scalar.select (IntOp.cmpi .slt (res_main_v53 V0 (ix2 b m)) 0#32)
      (IntOp.addi (res_main_v53 V0 (ix2 b m)) 100#32) (res_main_v53 V0 (ix2 b m)) := by
    pointwise [res_main_call7_v4, res_main_v54]
  have := (at40 (score V0 b) m).isLt
  rw [e, rows]
  exact wrap_word _ _ (by omega)

/-- A check that every row number lies in the table, read where it does. -/
theorem all_in (x : IVec S4x40x1 32) (b : Fin 4) (m : Fin 40) (k : Fin 100) (hk : x (ix3 b m 0) = BitVec.ofNat 32 k.val) :
    Host.reduce IntOp.andi (andi (cmpi .sge x (broadcastInDim S4x40x1 ![] bcast_S_S4x40x1 (constantI S_ 32 0#32))) (cmpi .sle x (broadcastInDim S4x40x1 ![0, 1, 2] bcast_S1x1x1_S4x40x1_0_1_2 (broadcastInDim S1x1x1 ![2] bcast_S1_S1x1x1_2 (constantI S1 32 99#32))))) (constantI S_ 1 1#1) reducesTo_S4x40x1_S4x40_d2 h_S_ (ix2 b m)
      = 1#1 := by
  have := k.isLt
  pointwise
  simp only [Finset.univ_unique, Finset.fold_singleton]
  show IntOp.andi (IntOp.andi (IntOp.cmpi .sge (x (ix3 b m 0)) (BitVec.ofNat 32 0)) (IntOp.cmpi .sle (x (ix3 b m 0)) (BitVec.ofNat 32 99))) 1#1 = 1#1
  rw [hk, WordCmp.cmpi_sge_ofNat (w := 32) (by omega) (by omega), WordCmp.cmpi_sle_ofNat (w := 32) (by omega) (by omega), decide_eq_true (by omega), decide_eq_true (by omega)]
  rfl

/-- The selected rows. -/
theorem rows_read (b : Fin 4) (m : Fin 40) (d : Fin 768) :
    res_main_v55 V0 (ix3 b m d) = V0 (Proc.devRef .tc main_arg0) (ix3 b (at40 (score V0 b) m) d) := by
  have e : ∀ (p : IVec S4x40 1) (x y : FVec Ideal S4x40x768 .f32), p (ix2 b m) = 1#1 →
      select (broadcastInDim S4x40x768 ![0, 1] bcast_S4x40_S4x40x768_0_1 p) x y (ix3 b m d) = x (ix3 b m d) := fun p x y hp => by
    have : select (broadcastInDim S4x40x768 ![0, 1] bcast_S4x40_S4x40x768_0_1 p) x y (ix3 b m d) = Scalar.select (p (ix2 b m)) (x (ix3 b m d)) (y (ix3 b m d)) := by
      pointwise
    rw [this, hp]
    rfl
  exact (e _ _ _ (all_in _ b m _ (row_word V0 b m))).trans (gather_rows _ _ b m d _ (row_word V0 b m))

/-- The ranges of the selected rows. -/
theorem ranges_read (b : Fin 4) (m : Fin 40) (q : Fin 2) :
    res_main_v62 V0 (ix3 b m q) = V0 (Proc.devRef .tc main_arg1) (ix2 (at40 (score V0 b) m) q) := by
  refine gather_pairs _ _ b m q _ ?_
  have e : ∀ x : IVec S4x40 32, broadcastInDim S4x40x1 ![0, 1] bcast_S4x40_S4x40x1_0_1 (select (cmpi .slt x (broadcastInDim S4x40 ![] bcast_S_S4x40 (constantI S_ 32 0#32))) (addi x (broadcastInDim S4x40 ![] bcast_S_S4x40 (constantI S_ 32 100#32))) x) (ix3 b m 0)
      = Scalar.select (IntOp.cmpi .slt (x (ix2 b m)) 0#32) (IntOp.addi (x (ix2 b m)) 100#32) (x (ix2 b m)) := fun x => by
    pointwise
  have := (at40 (score V0 b) m).isLt
  rw [e, rows]
  exact wrap_word _ _ (by omega)

end Cert.ReferenceIdeal.Picked
-- ==== Proof.RefValue.lean ====
/-
  The reference's two results at an entry: the first is the pair's score plus the two rows' scores, the second the ranges of the two rows of a pair.
-/
module

public import proofs.«01_k».proof.Proof.RefRows

@[expose] public section

set_option maxRecDepth 16384

noncomputable section

namespace Cert.ReferenceIdeal.Picked

open Cert.ReferenceIdeal Cert.ReferenceIdeal.Gen Cert.ReferenceIdeal.Value Idealize.ShloMosaic Cert.Formula Cert.Selection

variable (V0 : Valuation τ sig (Elt Ideal))

/-- A sum over 2304 entries is the sum of three sums over 768. -/
theorem sum_three (f : Fin 2304 → EReal) : ∑ k : Fin 2304, f k
    = (∑ k : Fin 768, f ⟨k.val, by omega⟩ + ∑ k : Fin 768, f ⟨768 + k.val, by omega⟩) + ∑ k : Fin 768, f ⟨1536 + k.val, by omega⟩ := by
  rw [Fin.sum_univ_add (a := 1536) (b := 768) f, Fin.sum_univ_add (a := 768) (b := 768)]
  rfl

/-- Two tables of rows and their product, side by side. -/
def joined (x y : FVec Ideal S4x1600x768 .f32) : FVec Ideal S4x1600x2304 .f32 :=
  concatenate S4x1600x2304 2 [⟨S4x1600x768, x⟩, ⟨S4x1600x768, y⟩, ⟨S4x1600x768, mulf x y⟩] concatenates_S4x1600x768_S4x1600x768_S4x1600x768_S4x1600x2304_d2

/-- The first 768 columns are those of the first table. -/
theorem joined_0 (x y : FVec Ideal S4x1600x768 .f32) (b : Fin 4) (r : Fin 1600) (k : Fin 768) :
    joined x y (ix3 b r ⟨k.val, by omega⟩) = x (ix3 b r k) := by
  pointwise [joined]

/-- The next 768 are those of the second table. -/
theorem joined_1 (x y : FVec Ideal S4x1600x768 .f32) (b : Fin 4) (r : Fin 1600) (k : Fin 768) :
    joined x y (ix3 b r ⟨768 + k.val, by omega⟩) = y (ix3 b r k) := by
  pointwise [joined]

/-- The last 768 are those of the product. -/
theorem joined_2 (x y : FVec Ideal S4x1600x768 .f32) (b : Fin 4) (r : Fin 1600) (k : Fin 768) :
    joined x y (ix3 b r ⟨1536 + k.val, by omega⟩) = x (ix3 b r k) * y (ix3 b r k) := by
  have e : (⟨1536 + k.val - 768 - 768, by omega⟩ : Fin 768) = k := Fin.ext (by show 1536 + k.val - 768 - 768 = k.val; omega)
  pointwise [joined]
  rw [dif_neg (by omega), dif_neg (by omega), e]

/-- The first row of a pair. -/
theorem left_row (b : Fin 4) (r : Fin 1600) (d : Fin 768) :
    res_main_v64 V0 (ix3 b r d) = V0 (Proc.devRef .tc main_arg0) (ix3 b (at40 (score V0 b) (fst r)) d) := by
  refine Eq.trans ?_ (rows_read V0 b (fst r) d)
  pointwise [res_main_v64]
  rfl

/-- The second row of a pair. -/
theorem right_row (b : Fin 4) (r : Fin 1600) (d : Fin 768) :
    res_main_v67 V0 (ix3 b r d) = V0 (Proc.devRef .tc main_arg0) (ix3 b (at40 (score V0 b) (snd r)) d) := by
  refine Eq.trans ?_ (rows_read V0 b (snd r) d)
  pointwise [res_main_v67]
  rfl

/-- The score of a selected row. -/
theorem row_score (b : Fin 4) (m : Fin 40) (e : Fin 4) : res_main_v78 V0 (ix3 b m e)
    = single (fun d => V0 (Proc.devRef .tc main_arg0) (ix3 b (at40 (score V0 b) m) d)) (fun k d => V0 (Proc.devRef .tc main_arg2) (ix2 k d))
        (fun d => V0 (Proc.devRef .tc main_arg3) (ix1 d)) (fun d e => V0 (Proc.devRef .tc main_arg4) (ix2 d e)) (fun e => V0 (Proc.devRef .tc main_arg5) (ix1 e)) e := by
  unfold single
  simp only [← rows_read]
  pointwise [res_main_v78]

/-- The reference's first result. -/
def first : FVec Ideal S4x1600x4 .f32 :=
  addf (addf (addf (Host.dotGeneral (φ₂ := .f32) dot_S4x1600x768_S768x4_S4x1600x4_2_0_01_1_n_n none (maximumf (addf (Host.dotGeneral (φ₂ := .f32) dot_S4x1600x2304_S2304x768_S4x1600x768_2_0_01_1_n_n none (joined (res_main_v64 V0) (res_main_v67 V0)) (V0 (Proc.devRef .tc main_arg6) : FVec Ideal S2304x768 .f32)) (broadcastInDim S4x1600x768 ![0, 1, 2] bcast_S1x1x768_S4x1600x768_0_1_2 (broadcastInDim S1x1x768 ![2] bcast_S768_S1x1x768_2 (V0 (Proc.devRef .tc main_arg7) : FVec Ideal S768 .f32)))) (broadcastInDim S4x1600x768 ![] bcast_S_S4x1600x768 (constant (F := Ideal) S_ .f32 0x00000000#32))) (V0 (Proc.devRef .tc main_arg8) : FVec Ideal S768x4 .f32)) (broadcastInDim S4x1600x4 ![0, 1, 2] bcast_S1x1x4_S4x1600x4_0_1_2 (broadcastInDim S1x1x4 ![2] bcast_S4_S1x1x4_2 (V0 (Proc.devRef .tc main_arg9) : FVec Ideal S4 .f32)))) (shapeCast S4x1600x4 (broadcastInDim S1x4x40x40x1x4 ![0, 1, 2, 3, 4, 5] bcast_S1x4x1x40x1x4_S1x4x40x40x1x4_0_1_2_3_4_5 (shapeCast S1x4x1x40x1x4 (res_main_v78 V0) shapeCasts_S4x40x4_S1x4x1x40x1x4)) shapeCasts_S1x4x40x40x1x4_S4x1600x4)) (shapeCast S4x1600x4 (broadcastInDim S4x40x40x4 ![0, 1, 3] bcast_S4x40x4_S4x40x40x4_0_1_3 (res_main_v78 V0)) shapeCasts_S4x40x40x4_S4x1600x4)

/-- The reference's second result. -/
def second : IVec S4x1600x2x2 32 :=
  concatenate S4x1600x2x2 2 [⟨S4x1600x1x2, (broadcastInDim S4x1600x1x2 ![0, 1, 3] bcast_S4x1600x2_S4x1600x1x2_0_1_3 (shapeCast S4x1600x2 (broadcastInDim S4x40x40x2 ![0, 1, 3] bcast_S4x40x2_S4x40x40x2_0_1_3 (res_main_v62 V0)) shapeCasts_S4x40x40x2_S4x1600x2))⟩, ⟨S4x1600x1x2, (broadcastInDim S4x1600x1x2 ![0, 1, 3] bcast_S4x1600x2_S4x1600x1x2_0_1_3 (shapeCast S4x1600x2 (broadcastInDim S1x4x40x40x1x2 ![0, 1, 2, 3, 4, 5] bcast_S1x4x1x40x1x2_S1x4x40x40x1x2_0_1_2_3_4_5 (shapeCast S1x4x1x40x1x2 (res_main_v62 V0) shapeCasts_S4x40x2_S1x4x1x40x1x2)) shapeCasts_S1x4x40x40x1x2_S4x1600x2))⟩] concatenates_S4x1600x1x2_S4x1600x1x2_S4x1600x2x2_d2

/-- The first result at an entry. -/
theorem first_apply (b : Fin 4) (r : Fin 1600) (e : Fin 4) : first V0 (ix3 b r e)
    = result1 (fun b k d => V0 (Proc.devRef .tc main_arg0) (ix3 b k d)) (fun k d => V0 (Proc.devRef .tc main_arg2) (ix2 k d))
        (fun d => V0 (Proc.devRef .tc main_arg3) (ix1 d)) (fun d e => V0 (Proc.devRef .tc main_arg4) (ix2 d e)) (fun e => V0 (Proc.devRef .tc main_arg5) (ix1 e))
        (fun k d => V0 (Proc.devRef .tc main_arg6) (ix2 k d)) (fun d => V0 (Proc.devRef .tc main_arg7) (ix1 d))
        (fun d e => V0 (Proc.devRef .tc main_arg8) (ix2 d e)) (fun e => V0 (Proc.devRef .tc main_arg9) (ix1 e)) b r e := by
  show _ = logit (fun d => V0 (Proc.devRef .tc main_arg0) (ix3 b (at40 (score V0 b) (fst r)) d)) (fun d => V0 (Proc.devRef .tc main_arg0) (ix3 b (at40 (score V0 b) (snd r)) d)) _ _ _ _ _ _ _ _ e
  unfold logit
  rw [← row_score, ← row_score]
  have h : first V0 (ix3 b r e) = (((∑ d : Fin 768, max ((∑ k : Fin 2304, joined (res_main_v64 V0) (res_main_v67 V0) (ix3 b r k)
          * V0 (Proc.devRef .tc main_arg6) (ix2 k d)) + V0 (Proc.devRef .tc main_arg7) (ix1 d)) 0 * V0 (Proc.devRef .tc main_arg8) (ix2 d e))
        + V0 (Proc.devRef .tc main_arg9) (ix1 e)) + res_main_v78 V0 (ix3 b (snd r) e)) + res_main_v78 V0 (ix3 b (fst r) e) := by
    pointwise [first]
    rfl
  rw [h]
  unfold pair
  simp only [sum_three, joined_0, joined_1, joined_2, left_row, right_row]

/-- The second result at an entry. -/
theorem second_apply (b : Fin 4) (r : Fin 1600) (p q : Fin 2) : second V0 (ix4 b r p q)
    = result2 (fun b k d => V0 (Proc.devRef .tc main_arg0) (ix3 b k d)) (fun k d => V0 (Proc.devRef .tc main_arg2) (ix2 k d))
        (fun d => V0 (Proc.devRef .tc main_arg3) (ix1 d)) (fun d e => V0 (Proc.devRef .tc main_arg4) (ix2 d e)) (fun e => V0 (Proc.devRef .tc main_arg5) (ix1 e))
        (fun k q => V0 (Proc.devRef .tc main_arg1) (ix2 k q)) b r p q := by
  show _ = V0 (Proc.devRef .tc main_arg1) (ix2 (at40 (score V0 b) (if p = 0 then fst r else snd r)) q)
  rw [← ranges_read V0 b _ q]
  fin_cases p
  · pointwise [second]
    rfl
  · pointwise [second]
    rfl

/-- The first result, whole. -/
theorem first_table : first V0 = table1 (V0 (Proc.devRef .tc main_arg0)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) := by
  funext i
  rw [eq_ix3 i]
  exact first_apply V0 _ _ _

/-- The second result, whole. -/
theorem second_table : second V0 = table2 (V0 (Proc.devRef .tc main_arg0)) (V0 (Proc.devRef .tc main_arg2)) (V0 (Proc.devRef .tc main_arg3)) (V0 (Proc.devRef .tc main_arg4)) (V0 (Proc.devRef .tc main_arg5)) (V0 (Proc.devRef .tc main_arg1)) := by
  funext i
  rw [eq_ix4 i]
  exact second_apply V0 _ _ _ _

/-- From any memory with zero counters, the reference ends with its two results at the two tables of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v94) = table1 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v102) = table2 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg1)) :=
  (θ_run defs _ _).mono (fun _ h c => ⟨(h c).1.trans (first_table (StableHlo.launchContents m c)), (h c).2.1.trans (second_table (StableHlo.launchContents m c))⟩)
    (Cert.ReferenceIdeal.Value.run (F := Ideal) m ρ)

end Cert.ReferenceIdeal.Picked
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- From memories that agree on the arguments the idealized kernel and the idealized reference end with equal results: both leave
    the two tables of the arguments. -/
theorem values [Cert.KernelIdeal.Facts] [Cert.ReferenceIdeal.Facts] : Cert.algebraic_KernelIdeal_ReferenceIdeal :=
  fun m ρ m' ρ' _ same =>
    ⟨fun c => Cert.Formula.table1 (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
     fun c => Cert.Formula.table2 (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg1)),
     (θ_run Cert.KernelIdeal.defs _ _).mono (fun _ h c => ⟨(h.1 c).1, (h.1 c).2, h.2.1 c⟩)
       (θ_run_and (Cert.KernelIdeal.RunValue.run_tables m ρ) (Cert.KernelIdeal.Gen.frame m ρ)),
     (θ_run Cert.ReferenceIdeal.defs _ _).mono (fun _ h c => by
         obtain ⟨h0, h1, h2, h3, h4, h5, h6, h7, h8, h9⟩ := same c
         refine ⟨(h.1 c).1.trans ?_, (h.1 c).2.trans ?_, (h.2 c).2.2⟩
         · rw [h0, h2, h3, h4, h5, h6, h7, h8, h9]
         · rw [h0, h1, h2, h3, h4, h5])
       (θ_run_and (Cert.ReferenceIdeal.Picked.run m' ρ') (Cert.ReferenceIdeal.Value.run (F := Ideal) m' ρ'))⟩

/-- The kernel, its idealization and the reference end with their arguments unchanged and every semaphore counter zero,
    the idealization rewrote nothing, and from equal arguments the idealization and the reference end with equal results. -/
theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => (θ_run Cert.ReferenceIdeal.defs _ _).mono
    (fun r h => ⟨fun c => (h c).2.2, sem_eq_zero_of_no_sems (by decide) r.2⟩)
    (Cert.ReferenceIdeal.Value.run (F := Ideal) m ρ),
  trivial,
  values⟩

end Cert.Proof

end
